-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_name_rows [hPre_ids_name_rows : Cert.Pre_ids_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_ids_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_ids_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_ids_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_ids_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_rows [hPre_ids_name_rows : Cert.Pre_ids_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_ids_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_ids_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_ids_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_ids_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_ids_name_rows [hKernelIdeal : Cert.KernelIdeal.Facts] [hPre_ids_name_rows : Cert.Pre_ids_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_name_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_ids_name_rows [hReferenceIdeal : Cert.ReferenceIdeal.Facts] [hPre_ids_name_rows : Cert.Pre_ids_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_ids_name_rows [hKernelIdeal : Cert.KernelIdeal.Facts] [hReferenceIdeal : Cert.ReferenceIdeal.Facts] [hPre_ids_name_rows : Cert.Pre_ids_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_name_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_ids_name_rows : Cert.Pre_ids_name_rows.Facts),
    quiescent_Kernel (hKernel := hKernel)
    ∧ quiescent_KernelIdeal (hKernelIdeal := hKernelIdeal)
    ∧ quiescent_KernelIdeal_pre_ids_name_rows (hKernelIdeal := hKernelIdeal) (hPre_ids_name_rows := hPre_ids_name_rows)
    ∧ quiescent_ReferenceIdeal (hReferenceIdeal := hReferenceIdeal)
    ∧ quiescent_ReferenceIdeal_pre_ids_name_rows (hReferenceIdeal := hReferenceIdeal) (hPre_ids_name_rows := hPre_ids_name_rows)
    ∧ preserves_Kernel_KernelIdeal
    ∧ algebraic_KernelIdeal_ReferenceIdeal_pre_ids_name_rows (hKernelIdeal := hKernelIdeal) (hReferenceIdeal := hReferenceIdeal) (hPre_ids_name_rows := hPre_ids_name_rows)
-- ==== Pre_ids_name_rows.lean ====
abbrev S4096x37x30 : Shape := ⟨3, ![4096, 37, 30]⟩
abbrev S4096x10 : Shape := ⟨2, ![4096, 10]⟩
abbrev S4096x27 : Shape := ⟨2, ![4096, 27]⟩
abbrev S60x30 : Shape := ⟨2, ![60, 30]⟩
abbrev S60x10 : Shape := ⟨2, ![60, 10]⟩
abbrev S27x8 : Shape := ⟨2, ![27, 8]⟩
abbrev S60x135 : Shape := ⟨2, ![60, 135]⟩
abbrev S8x135 : Shape := ⟨2, ![8, 135]⟩
abbrev S27x27 : Shape := ⟨2, ![27, 27]⟩
abbrev S27 : Shape := ⟨1, ![27]⟩
abbrev S27x135 : Shape := ⟨2, ![27, 135]⟩
abbrev S135 : Shape := ⟨1, ![135]⟩
abbrev S4096x37x1 : Shape := ⟨3, ![4096, 37, 1]⟩
abbrev S4096x37x3 : Shape := ⟨3, ![4096, 37, 3]⟩
abbrev S4096x37x7 : Shape := ⟨3, ![4096, 37, 7]⟩
abbrev S4096x3 : Shape := ⟨2, ![4096, 3]⟩
abbrev S4096x1 : Shape := ⟨2, ![4096, 1]⟩
abbrev S4096x4 : Shape := ⟨2, ![4096, 4]⟩
abbrev S_ : Shape := ⟨0, ![]⟩

class Facts : Prop where
  slices_S4096x37x30_S4096x37x1_0_0_0 : S4096x37x30.Slices ![0, 0, 0] S4096x37x1
  slices_S4096x37x30_S4096x37x3_0_0_1 : S4096x37x30.Slices ![0, 0, 1] S4096x37x3
  slices_S4096x37x30_S4096x37x7_0_0_4 : S4096x37x30.Slices ![0, 0, 4] S4096x37x7
  slices_S4096x10_S4096x3_0_7 : S4096x10.Slices ![0, 7] S4096x3
  slices_S4096x10_S4096x1_0_0 : S4096x10.Slices ![0, 0] S4096x1
  concatenates_S4096x3_S4096x1_S4096x4_d1 : Shape.Concatenates [S4096x3, S4096x1] S4096x4 1
  bcast_S_S4096x37x1 : S_.BroadcastsInDim S4096x37x1 (![] : Fin 0 → Fin S4096x37x1.rank)
  bcast_S_S4096x37x3 : S_.BroadcastsInDim S4096x37x3 (![] : Fin 0 → Fin S4096x37x3.rank)
  bcast_S_S4096x37x7 : S_.BroadcastsInDim S4096x37x7 (![] : Fin 0 → Fin S4096x37x7.rank)
  bcast_S_S4096x10 : S_.BroadcastsInDim S4096x10 (![] : Fin 0 → Fin S4096x10.rank)
  bcast_S_S4096x4 : S_.BroadcastsInDim S4096x4 (![] : Fin 0 → Fin S4096x4.rank)

variable [Facts]

def fn_part1 {F : FTy → Type} [FloatOps F] (main_arg1 : FVec F S4096x10 .f32) (main_v2 : FVec F S4096x37x7 .f32) (main_v5 : FVec F S4096x4 .f32) (main_v10 : IVec S4096x37x1 1) (main_v15 : IVec S4096x37x3 1) (main_v17 : IVec S4096x37x7 1) (main_cst_4 : FVec F S_ .f32) : IVec S4096x37x1 1 × IVec S4096x37x3 1 × IVec S4096x37x7 1 × IVec S4096x10 1 × IVec S4096x4 1 :=
  let main_v18 : FVec F S4096x37x7 .f32 := broadcastInDim S4096x37x7 ![] bcast_S_S4096x37x7 main_cst_4
  let main_v19 : IVec S4096x37x7 1 := cmpf .olt main_v2 main_v18
  let main_v20 : IVec S4096x37x7 1 := andi main_v17 main_v19
  let main_cst_5 : FVec F S_ .f32 := constant S_ .f32 0x00000000#32
  let main_v21 : FVec F S4096x10 .f32 := broadcastInDim S4096x10 ![] bcast_S_S4096x10 main_cst_5
  let main_v22 : IVec S4096x10 1 := cmpf .oge main_arg1 main_v21
  let main_cst_6 : FVec F S_ .f32 := constant S_ .f32 0x42700000#32
  let main_v23 : FVec F S4096x10 .f32 := broadcastInDim S4096x10 ![] bcast_S_S4096x10 main_cst_6
  let main_v24 : IVec S4096x10 1 := cmpf .olt main_arg1 main_v23
  let main_v25 : IVec S4096x10 1 := andi main_v22 main_v24
  let main_cst_7 : FVec F S_ .f32 := constant S_ .f32 0x00000000#32
  let main_v26 : FVec F S4096x4 .f32 := broadcastInDim S4096x4 ![] bcast_S_S4096x4 main_cst_7
  let main_v27 : IVec S4096x4 1 := cmpf .oge main_v5 main_v26
  let main_cst_8 : FVec F S_ .f32 := constant S_ .f32 0x41000000#32
  let main_v28 : FVec F S4096x4 .f32 := broadcastInDim S4096x4 ![] bcast_S_S4096x4 main_cst_8
  let main_v29 : IVec S4096x4 1 := cmpf .olt main_v5 main_v28
  let main_v30 : IVec S4096x4 1 := andi main_v27 main_v29
  (main_v10, main_v15, main_v20, main_v25, main_v30)

def fn {F : FTy → Type} [FloatOps F] (main_arg0 : FVec F S4096x37x30 .f32) (main_arg1 : FVec F S4096x10 .f32) (main_arg2 : FVec F S4096x27 .f32) (main_arg3 : FVec F S4096x10 .f32) (main_arg4 : FVec F S60x30 .f32) (main_arg5 : FVec F S60x10 .f32) (main_arg6 : FVec F S27x8 .f32) (main_arg7 : FVec F S60x135 .f32) (main_arg8 : FVec F S8x135 .f32) (main_arg9 : FVec F S27x27 .f32) (main_arg10 : FVec F S27 .f32) (main_arg11 : FVec F S27x135 .f32) (main_arg12 : FVec F S135 .f32) : IVec S4096x37x1 1 × IVec S4096x37x3 1 × IVec S4096x37x7 1 × IVec S4096x10 1 × IVec S4096x4 1 :=
  let main_v0 : FVec F S4096x37x1 .f32 := (extractStridedSlice S4096x37x1 ![0, 0, 0] · slices_S4096x37x30_S4096x37x1_0_0_0) main_arg0
  let main_v1 : FVec F S4096x37x3 .f32 := (extractStridedSlice S4096x37x3 ![0, 0, 1] · slices_S4096x37x30_S4096x37x3_0_0_1) main_arg0
  let main_v2 : FVec F S4096x37x7 .f32 := (extractStridedSlice S4096x37x7 ![0, 0, 4] · slices_S4096x37x30_S4096x37x7_0_0_4) main_arg0
  let main_v3 : FVec F S4096x3 .f32 := (extractStridedSlice S4096x3 ![0, 7] · slices_S4096x10_S4096x3_0_7) main_arg3
  let main_v4 : FVec F S4096x1 .f32 := (extractStridedSlice S4096x1 ![0, 0] · slices_S4096x10_S4096x1_0_0) main_arg3
  let main_v5 : FVec F S4096x4 .f32 := (fun a b => concatenate S4096x4 1 [⟨S4096x3, a⟩, ⟨S4096x1, b⟩] concatenates_S4096x3_S4096x1_S4096x4_d1) main_v3 main_v4
  let main_cst : FVec F S_ .f32 := constant S_ .f32 0x00000000#32
  let main_v6 : FVec F S4096x37x1 .f32 := broadcastInDim S4096x37x1 ![] bcast_S_S4096x37x1 main_cst
  let main_v7 : IVec S4096x37x1 1 := cmpf .oge main_v0 main_v6
  let main_cst_0 : FVec F S_ .f32 := constant S_ .f32 0x42700000#32
  let main_v8 : FVec F S4096x37x1 .f32 := broadcastInDim S4096x37x1 ![] bcast_S_S4096x37x1 main_cst_0
  let main_v9 : IVec S4096x37x1 1 := cmpf .olt main_v0 main_v8
  let main_v10 : IVec S4096x37x1 1 := andi main_v7 main_v9
  let main_cst_1 : FVec F S_ .f32 := constant S_ .f32 0x00000000#32
  let main_v11 : FVec F S4096x37x3 .f32 := broadcastInDim S4096x37x3 ![] bcast_S_S4096x37x3 main_cst_1
  let main_v12 : IVec S4096x37x3 1 := cmpf .oge main_v1 main_v11
  let main_cst_2 : FVec F S_ .f32 := constant S_ .f32 0x42700000#32
  let main_v13 : FVec F S4096x37x3 .f32 := broadcastInDim S4096x37x3 ![] bcast_S_S4096x37x3 main_cst_2
  let main_v14 : IVec S4096x37x3 1 := cmpf .olt main_v1 main_v13
  let main_v15 : IVec S4096x37x3 1 := andi main_v12 main_v14
  let main_cst_3 : FVec F S_ .f32 := constant S_ .f32 0x00000000#32
  let main_v16 : FVec F S4096x37x7 .f32 := broadcastInDim S4096x37x7 ![] bcast_S_S4096x37x7 main_cst_3
  let main_v17 : IVec S4096x37x7 1 := cmpf .oge main_v2 main_v16
  let main_cst_4 : FVec F S_ .f32 := constant S_ .f32 0x41D80000#32
  fn_part1 (F := F) main_arg1 main_v2 main_v5 main_v10 main_v15 main_v17 main_cst_4
-- ==== Kernel.lean ====
abbrev S4096x37x30 : Shape := ⟨3, ![4096, 37, 30]⟩
abbrev S4096x10 : Shape := ⟨2, ![4096, 10]⟩
abbrev S4096x27 : Shape := ⟨2, ![4096, 27]⟩
abbrev S60x30 : Shape := ⟨2, ![60, 30]⟩
abbrev S60x10 : Shape := ⟨2, ![60, 10]⟩
abbrev S27x8 : Shape := ⟨2, ![27, 8]⟩
abbrev S60x135 : Shape := ⟨2, ![60, 135]⟩
abbrev S8x135 : Shape := ⟨2, ![8, 135]⟩
abbrev S27x27 : Shape := ⟨2, ![27, 27]⟩
abbrev S27 : Shape := ⟨1, ![27]⟩
abbrev S27x135 : Shape := ⟨2, ![27, 135]⟩
abbrev S135 : Shape := ⟨1, ![135]⟩
abbrev S1x11 : Shape := ⟨2, ![1, 11]⟩
abbrev S_ : Shape := ⟨0, ![]⟩
abbrev S448x135 : Shape := ⟨2, ![448, 135]⟩
abbrev S1 : Shape := ⟨1, ![1]⟩
abbrev S2 : Shape := ⟨1, ![2]⟩
abbrev S19x19 : Shape := ⟨2, ![19, 19]⟩
abbrev S11x429 : Shape := ⟨2, ![11, 429]⟩
abbrev S60 : Shape := ⟨1, ![60]⟩
abbrev S429 : Shape := ⟨1, ![429]⟩
abbrev S1x429 : Shape := ⟨2, ![1, 429]⟩
abbrev S1x27 : Shape := ⟨2, ![1, 27]⟩
abbrev S1x135 : Shape := ⟨2, ![1, 135]⟩
abbrev S37x4096x30 : Shape := ⟨3, ![37, 4096, 30]⟩
abbrev S4096x58x135 : Shape := ⟨3, ![4096, 58, 135]⟩
abbrev S37x128x30 : Shape := ⟨3, ![37, 128, 30]⟩
abbrev S128x10 : Shape := ⟨2, ![128, 10]⟩
abbrev S128x27 : Shape := ⟨2, ![128, 27]⟩
abbrev S128x58x135 : Shape := ⟨3, ![128, 58, 135]⟩
abbrev S4736x30 : Shape := ⟨2, ![4736, 30]⟩
abbrev S4736x11 : Shape := ⟨2, ![4736, 11]⟩
abbrev S4736x429 : Shape := ⟨2, ![4736, 429]⟩
abbrev S4736x19 : Shape := ⟨2, ![4736, 19]⟩
abbrev S4736x448 : Shape := ⟨2, ![4736, 448]⟩
abbrev S4736x135 : Shape := ⟨2, ![4736, 135]⟩
abbrev S128x135 : Shape := ⟨2, ![128, 135]⟩
abbrev S128x1x135 : Shape := ⟨3, ![128, 1, 135]⟩
abbrev S128x1 : Shape := ⟨2, ![128, 1]⟩
abbrev S1280x1 : Shape := ⟨2, ![1280, 1]⟩
abbrev S1280x60 : Shape := ⟨2, ![1280, 60]⟩
abbrev S1280x135 : Shape := ⟨2, ![1280, 135]⟩
abbrev S512x1 : Shape := ⟨2, ![512, 1]⟩
abbrev S512x135 : Shape := ⟨2, ![512, 135]⟩
abbrev S8x135x1 : Shape := ⟨3, ![8, 135, 1]⟩

abbrev nBuf : Space → Nat
  | .hbm => 206
  | .vmem => 20
  | .smem => 0
  | _ => 0

abbrev hbmTy0_0 (i : Nat) : BufTy := match i % 128 with
  | 0 => ⟨S4096x37x30, .f32⟩
  | 1 => ⟨S4096x10, .f32⟩
  | 2 => ⟨S4096x27, .f32⟩
  | 3 => ⟨S4096x10, .f32⟩
  | 4 => ⟨S60x30, .f32⟩
  | 5 => ⟨S60x10, .f32⟩
  | 6 => ⟨S27x8, .f32⟩
  | 7 => ⟨S60x135, .f32⟩
  | 8 => ⟨S8x135, .f32⟩
  | 9 => ⟨S27x27, .f32⟩
  | 10 => ⟨S27, .f32⟩
  | 11 => ⟨S27x135, .f32⟩
  | 12 => ⟨S135, .f32⟩
  | 13 => ⟨S1x11, .f32⟩
  | 14 => ⟨S_, .f32⟩
  | 15 => ⟨S448x135, .f32⟩
  | 16 => ⟨S_, .i32⟩
  | 17 => ⟨S1, .i32⟩
  | 18 => ⟨S_, .i32⟩
  | 19 => ⟨S1, .i32⟩
  | 20 => ⟨S2, .i32⟩
  | 21 => ⟨S448x135, .f32⟩
  | 22 => ⟨S_, .i32⟩
  | 23 => ⟨S1, .i32⟩
  | 24 => ⟨S_, .i32⟩
  | 25 => ⟨S1, .i32⟩
  | 26 => ⟨S2, .i32⟩
  | 27 => ⟨S448x135, .f32⟩
  | 28 => ⟨S_, .i32⟩
  | 29 => ⟨S1, .i32⟩
  | 30 => ⟨S_, .i32⟩
  | 31 => ⟨S1, .i32⟩
  | 32 => ⟨S2, .i32⟩
  | 33 => ⟨S448x135, .f32⟩
  | 34 => ⟨S_, .i32⟩
  | 35 => ⟨S1, .i32⟩
  | 36 => ⟨S_, .i32⟩
  | 37 => ⟨S1, .i32⟩
  | 38 => ⟨S2, .i32⟩
  | 39 => ⟨S448x135, .f32⟩
  | 40 => ⟨S_, .i32⟩
  | 41 => ⟨S1, .i32⟩
  | 42 => ⟨S_, .i32⟩
  | 43 => ⟨S1, .i32⟩
  | 44 => ⟨S2, .i32⟩
  | 45 => ⟨S448x135, .f32⟩
  | 46 => ⟨S_, .i32⟩
  | 47 => ⟨S1, .i32⟩
  | 48 => ⟨S_, .i32⟩
  | 49 => ⟨S1, .i32⟩
  | 50 => ⟨S2, .i32⟩
  | 51 => ⟨S448x135, .f32⟩
  | 52 => ⟨S_, .i32⟩
  | 53 => ⟨S1, .i32⟩
  | 54 => ⟨S_, .i32⟩
  | 55 => ⟨S1, .i32⟩
  | 56 => ⟨S2, .i32⟩
  | 57 => ⟨S448x135, .f32⟩
  | 58 => ⟨S_, .i32⟩
  | 59 => ⟨S1, .i32⟩
  | 60 => ⟨S_, .i32⟩
  | 61 => ⟨S1, .i32⟩
  | 62 => ⟨S2, .i32⟩
  | 63 => ⟨S448x135, .f32⟩
  | 64 => ⟨S_, .i32⟩
  | 65 => ⟨S1, .i32⟩
  | 66 => ⟨S_, .i32⟩
  | 67 => ⟨S1, .i32⟩
  | 68 => ⟨S2, .i32⟩
  | 69 => ⟨S448x135, .f32⟩
  | 70 => ⟨S_, .i32⟩
  | 71 => ⟨S1, .i32⟩
  | 72 => ⟨S_, .i32⟩
  | 73 => ⟨S1, .i32⟩
  | 74 => ⟨S2, .i32⟩
  | 75 => ⟨S448x135, .f32⟩
  | 76 => ⟨S_, .i32⟩
  | 77 => ⟨S1, .i32⟩
  | 78 => ⟨S_, .i32⟩
  | 79 => ⟨S1, .i32⟩
  | 80 => ⟨S2, .i32⟩
  | 81 => ⟨S448x135, .f32⟩
  | 82 => ⟨S19x19, .i32⟩
  | 83 => ⟨S19x19, .i32⟩
  | 84 => ⟨S_, .i32⟩
  | 85 => ⟨S19x19, .i32⟩
  | 86 => ⟨S19x19, .i32⟩
  | 87 => ⟨S19x19, .i1⟩
  | 88 => ⟨S19x19, .f32⟩
  | 89 => ⟨S_, .i32⟩
  | 90 => ⟨S1, .i32⟩
  | 91 => ⟨S_, .i32⟩
  | 92 => ⟨S1, .i32⟩
  | 93 => ⟨S2, .i32⟩
  | 94 => ⟨S448x135, .f32⟩
  | 95 => ⟨S448x135, .bf16⟩
  | 96 => ⟨S_, .f32⟩
  | 97 => ⟨S11x429, .f32⟩
  | 98 => ⟨S_, .i32⟩
  | 99 => ⟨S1, .i32⟩
  | 100 => ⟨S_, .i32⟩
  | 101 => ⟨S1, .i32⟩
  | 102 => ⟨S2, .i32⟩
  | 103 => ⟨S_, .f32⟩
  | 104 => ⟨S60, .f32⟩
  | 105 => ⟨S11x429, .f32⟩
  | 106 => ⟨S60, .f32⟩
  | 107 => ⟨S_, .i32⟩
  | 108 => ⟨S1, .i32⟩
  | 109 => ⟨S_, .i32⟩
  | 110 => ⟨S1, .i32⟩
  | 111 => ⟨S2, .i32⟩
  | 112 => ⟨S_, .f32⟩
  | 113 => ⟨S60, .f32⟩
  | 114 => ⟨S11x429, .f32⟩
  | 115 => ⟨S60, .f32⟩
  | 116 => ⟨S_, .i32⟩
  | 117 => ⟨S1, .i32⟩
  | 118 => ⟨S_, .i32⟩
  | 119 => ⟨S1, .i32⟩
  | 120 => ⟨S2, .i32⟩
  | 121 => ⟨S_, .f32⟩
  | 122 => ⟨S60, .f32⟩
  | 123 => ⟨S11x429, .f32⟩
  | 124 => ⟨S60, .f32⟩
  | 125 => ⟨S_, .i32⟩
  | 126 => ⟨S1, .i32⟩
  | 127 => ⟨S_, .i32⟩
  | _ => ⟨S4096x37x30, .f32⟩

abbrev hbmTy0_1 (i : Nat) : BufTy := match i % 128 with
  | 0 => ⟨S1, .i32⟩
  | 1 => ⟨S2, .i32⟩
  | 2 => ⟨S_, .f32⟩
  | 3 => ⟨S60, .f32⟩
  | 4 => ⟨S11x429, .f32⟩
  | 5 => ⟨S60, .f32⟩
  | 6 => ⟨S_, .i32⟩
  | 7 => ⟨S1, .i32⟩
  | 8 => ⟨S_, .i32⟩
  | 9 => ⟨S1, .i32⟩
  | 10 => ⟨S2, .i32⟩
  | 11 => ⟨S_, .f32⟩
  | 12 => ⟨S27, .f32⟩
  | 13 => ⟨S11x429, .f32⟩
  | 14 => ⟨S27, .f32⟩
  | 15 => ⟨S_, .i32⟩
  | 16 => ⟨S1, .i32⟩
  | 17 => ⟨S_, .i32⟩
  | 18 => ⟨S1, .i32⟩
  | 19 => ⟨S2, .i32⟩
  | 20 => ⟨S_, .f32⟩
  | 21 => ⟨S27, .f32⟩
  | 22 => ⟨S11x429, .f32⟩
  | 23 => ⟨S27, .f32⟩
  | 24 => ⟨S_, .i32⟩
  | 25 => ⟨S1, .i32⟩
  | 26 => ⟨S_, .i32⟩
  | 27 => ⟨S1, .i32⟩
  | 28 => ⟨S2, .i32⟩
  | 29 => ⟨S_, .f32⟩
  | 30 => ⟨S27, .f32⟩
  | 31 => ⟨S11x429, .f32⟩
  | 32 => ⟨S27, .f32⟩
  | 33 => ⟨S_, .i32⟩
  | 34 => ⟨S1, .i32⟩
  | 35 => ⟨S_, .i32⟩
  | 36 => ⟨S1, .i32⟩
  | 37 => ⟨S2, .i32⟩
  | 38 => ⟨S_, .f32⟩
  | 39 => ⟨S27, .f32⟩
  | 40 => ⟨S11x429, .f32⟩
  | 41 => ⟨S27, .f32⟩
  | 42 => ⟨S_, .i32⟩
  | 43 => ⟨S1, .i32⟩
  | 44 => ⟨S_, .i32⟩
  | 45 => ⟨S1, .i32⟩
  | 46 => ⟨S2, .i32⟩
  | 47 => ⟨S_, .f32⟩
  | 48 => ⟨S27, .f32⟩
  | 49 => ⟨S11x429, .f32⟩
  | 50 => ⟨S27, .f32⟩
  | 51 => ⟨S_, .i32⟩
  | 52 => ⟨S1, .i32⟩
  | 53 => ⟨S_, .i32⟩
  | 54 => ⟨S1, .i32⟩
  | 55 => ⟨S2, .i32⟩
  | 56 => ⟨S_, .f32⟩
  | 57 => ⟨S27, .f32⟩
  | 58 => ⟨S11x429, .f32⟩
  | 59 => ⟨S27, .f32⟩
  | 60 => ⟨S_, .i32⟩
  | 61 => ⟨S1, .i32⟩
  | 62 => ⟨S_, .i32⟩
  | 63 => ⟨S1, .i32⟩
  | 64 => ⟨S2, .i32⟩
  | 65 => ⟨S_, .f32⟩
  | 66 => ⟨S27, .f32⟩
  | 67 => ⟨S11x429, .f32⟩
  | 68 => ⟨S27, .f32⟩
  | 69 => ⟨S11x429, .bf16⟩
  | 70 => ⟨S429, .f32⟩
  | 71 => ⟨S1x429, .f32⟩
  | 72 => ⟨S1x429, .bf16⟩
  | 73 => ⟨S1x27, .f32⟩
  | 74 => ⟨S1x135, .f32⟩
  | 75 => ⟨S37x4096x30, .f32⟩
  | 76 => ⟨S60x135, .bf16⟩
  | 77 => ⟨S4096x58x135, .f32⟩
  | _ => ⟨S4096x37x30, .f32⟩

abbrev hbmTy (i : Nat) : BufTy := match i / 128 with
  | 0 => hbmTy0_0 i
  | 1 => hbmTy0_1 i
  | _ => ⟨S4096x37x30, .f32⟩

abbrev bufTy : (tb : Table) → Fin (tcTables nBuf tb) → BufTy
  | .hbm, ⟨i, _⟩ => hbmTy i
  | .local _ .vmem, ⟨0, _⟩ => ⟨S37x128x30, .f32⟩
  | .local _ .vmem, ⟨1, _⟩ => ⟨S37x128x30, .f32⟩
  | .local _ .vmem, ⟨2, _⟩ => ⟨S128x10, .f32⟩
  | .local _ .vmem, ⟨3, _⟩ => ⟨S128x10, .f32⟩
  | .local _ .vmem, ⟨4, _⟩ => ⟨S128x27, .f32⟩
  | .local _ .vmem, ⟨5, _⟩ => ⟨S128x27, .f32⟩
  | .local _ .vmem, ⟨6, _⟩ => ⟨S128x10, .f32⟩
  | .local _ .vmem, ⟨7, _⟩ => ⟨S128x10, .f32⟩
  | .local _ .vmem, ⟨8, _⟩ => ⟨S448x135, .bf16⟩
  | .local _ .vmem, ⟨9, _⟩ => ⟨S11x429, .bf16⟩
  | .local _ .vmem, ⟨10, _⟩ => ⟨S1x429, .bf16⟩
  | .local _ .vmem, ⟨11, _⟩ => ⟨S1x11, .f32⟩
  | .local _ .vmem, ⟨12, _⟩ => ⟨S60x135, .bf16⟩
  | .local _ .vmem, ⟨13, _⟩ => ⟨S8x135, .f32⟩
  | .local _ .vmem, ⟨14, _⟩ => ⟨S27x27, .f32⟩
  | .local _ .vmem, ⟨15, _⟩ => ⟨S1x27, .f32⟩
  | .local _ .vmem, ⟨16, _⟩ => ⟨S27x135, .f32⟩
  | .local _ .vmem, ⟨17, _⟩ => ⟨S1x135, .f32⟩
  | .local _ .vmem, ⟨18, _⟩ => ⟨S128x58x135, .f32⟩
  | .local _ .vmem, ⟨19, _⟩ => ⟨S128x58x135, .f32⟩
  | _, _ => ⟨S4096x37x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_c_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_2 : Ref sig .tc := ⟨.hbm, 22, rfl⟩
abbrev main_v5 : Ref sig .tc := ⟨.hbm, 23, rfl⟩
abbrev main_c_3 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_c_5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_6 : Ref sig .tc := ⟨.hbm, 34, rfl⟩
abbrev main_v13 : Ref sig .tc := ⟨.hbm, 35, rfl⟩
abbrev main_c_7 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_8 : Ref sig .tc := ⟨.hbm, 40, rfl⟩
abbrev main_v17 : Ref sig .tc := ⟨.hbm, 41, rfl⟩
abbrev main_c_9 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_10 : Ref sig .tc := ⟨.hbm, 46, rfl⟩
abbrev main_v21 : Ref sig .tc := ⟨.hbm, 47, rfl⟩
abbrev main_c_11 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_12 : Ref sig .tc := ⟨.hbm, 52, rfl⟩
abbrev main_v25 : Ref sig .tc := ⟨.hbm, 53, rfl⟩
abbrev main_c_13 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_14 : Ref sig .tc := ⟨.hbm, 58, rfl⟩
abbrev main_v29 : Ref sig .tc := ⟨.hbm, 59, rfl⟩
abbrev main_c_15 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_16 : Ref sig .tc := ⟨.hbm, 64, rfl⟩
abbrev main_v33 : Ref sig .tc := ⟨.hbm, 65, rfl⟩
abbrev main_c_17 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_18 : Ref sig .tc := ⟨.hbm, 70, rfl⟩
abbrev main_v37 : Ref sig .tc := ⟨.hbm, 71, rfl⟩
abbrev main_c_19 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_20 : Ref sig .tc := ⟨.hbm, 76, rfl⟩
abbrev main_v41 : Ref sig .tc := ⟨.hbm, 77, rfl⟩
abbrev main_c_21 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_22 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_23 : Ref sig .tc := ⟨.hbm, 89, rfl⟩
abbrev main_v51 : Ref sig .tc := ⟨.hbm, 90, rfl⟩
abbrev main_c_24 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_25 : Ref sig .tc := ⟨.hbm, 96, rfl⟩
abbrev main_v56 : Ref sig .tc := ⟨.hbm, 97, rfl⟩
abbrev main_c_26 : Ref sig .tc := ⟨.hbm, 98, rfl⟩
abbrev main_v57 : Ref sig .tc := ⟨.hbm, 99, rfl⟩
abbrev main_c_27 : Ref sig .tc := ⟨.hbm, 100, rfl⟩
abbrev main_v58 : Ref sig .tc := ⟨.hbm, 101, rfl⟩
abbrev main_v59 : Ref sig .tc := ⟨.hbm, 102, rfl⟩
abbrev main_cst_28 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c_29 : Ref sig .tc := ⟨.hbm, 107, rfl⟩
abbrev main_v63 : Ref sig .tc := ⟨.hbm, 108, rfl⟩
abbrev main_c_30 : Ref sig .tc := ⟨.hbm, 109, rfl⟩
abbrev main_v64 : Ref sig .tc := ⟨.hbm, 110, rfl⟩
abbrev main_v65 : Ref sig .tc := ⟨.hbm, 111, rfl⟩
abbrev main_cst_31 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_32 : Ref sig .tc := ⟨.hbm, 116, rfl⟩
abbrev main_v69 : Ref sig .tc := ⟨.hbm, 117, rfl⟩
abbrev main_c_33 : Ref sig .tc := ⟨.hbm, 118, rfl⟩
abbrev main_v70 : Ref sig .tc := ⟨.hbm, 119, rfl⟩
abbrev main_v71 : Ref sig .tc := ⟨.hbm, 120, rfl⟩
abbrev main_cst_34 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_c_35 : Ref sig .tc := ⟨.hbm, 125, rfl⟩
abbrev main_v75 : Ref sig .tc := ⟨.hbm, 126, rfl⟩
abbrev main_c_36 : Ref sig .tc := ⟨.hbm, 127, rfl⟩
abbrev main_v76 : Ref sig .tc := ⟨.hbm, 128, rfl⟩
abbrev main_v77 : Ref sig .tc := ⟨.hbm, 129, rfl⟩
abbrev main_cst_37 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_c_38 : Ref sig .tc := ⟨.hbm, 134, rfl⟩
abbrev main_v81 : Ref sig .tc := ⟨.hbm, 135, rfl⟩
abbrev main_c_39 : Ref sig .tc := ⟨.hbm, 136, rfl⟩
abbrev main_v82 : Ref sig .tc := ⟨.hbm, 137, rfl⟩
abbrev main_v83 : Ref sig .tc := ⟨.hbm, 138, rfl⟩
abbrev main_cst_40 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_c_41 : Ref sig .tc := ⟨.hbm, 143, rfl⟩
abbrev main_v87 : Ref sig .tc := ⟨.hbm, 144, rfl⟩
abbrev main_c_42 : Ref sig .tc := ⟨.hbm, 145, rfl⟩
abbrev main_v88 : Ref sig .tc := ⟨.hbm, 146, rfl⟩
abbrev main_v89 : Ref sig .tc := ⟨.hbm, 147, rfl⟩
abbrev main_cst_43 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_c_44 : Ref sig .tc := ⟨.hbm, 152, rfl⟩
abbrev main_v93 : Ref sig .tc := ⟨.hbm, 153, rfl⟩
abbrev main_c_45 : Ref sig .tc := ⟨.hbm, 154, rfl⟩
abbrev main_v94 : Ref sig .tc := ⟨.hbm, 155, rfl⟩
abbrev main_v95 : Ref sig .tc := ⟨.hbm, 156, rfl⟩
abbrev main_cst_46 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_c_47 : Ref sig .tc := ⟨.hbm, 161, rfl⟩
abbrev main_v99 : Ref sig .tc := ⟨.hbm, 162, rfl⟩
abbrev main_c_48 : Ref sig .tc := ⟨.hbm, 163, rfl⟩
abbrev main_v100 : Ref sig .tc := ⟨.hbm, 164, rfl⟩
abbrev main_v101 : Ref sig .tc := ⟨.hbm, 165, rfl⟩
abbrev main_cst_49 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_c_50 : Ref sig .tc := ⟨.hbm, 170, rfl⟩
abbrev main_v105 : Ref sig .tc := ⟨.hbm, 171, rfl⟩
abbrev main_c_51 : Ref sig .tc := ⟨.hbm, 172, rfl⟩
abbrev main_v106 : Ref sig .tc := ⟨.hbm, 173, rfl⟩
abbrev main_v107 : Ref sig .tc := ⟨.hbm, 174, rfl⟩
abbrev main_cst_52 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_c_53 : Ref sig .tc := ⟨.hbm, 179, rfl⟩
abbrev main_v111 : Ref sig .tc := ⟨.hbm, 180, rfl⟩
abbrev main_c_54 : Ref sig .tc := ⟨.hbm, 181, rfl⟩
abbrev main_v112 : Ref sig .tc := ⟨.hbm, 182, rfl⟩
abbrev main_v113 : Ref sig .tc := ⟨.hbm, 183, rfl⟩
abbrev main_cst_55 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_c_56 : Ref sig .tc := ⟨.hbm, 188, rfl⟩
abbrev main_v117 : Ref sig .tc := ⟨.hbm, 189, rfl⟩
abbrev main_c_57 : Ref sig .tc := ⟨.hbm, 190, rfl⟩
abbrev main_v118 : Ref sig .tc := ⟨.hbm, 191, rfl⟩
abbrev main_v119 : Ref sig .tc := ⟨.hbm, 192, rfl⟩
abbrev main_cst_58 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S37x128x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x27 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S448x135 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x429 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x429 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x11 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S60x135 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x135 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S27x27 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x27 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S27x135 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x135 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x58x135 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4096x37x30 : Shape := ⟨3, ![4096, 37, 30]⟩
abbrev S4096x10 : Shape := ⟨2, ![4096, 10]⟩
abbrev S4096x27 : Shape := ⟨2, ![4096, 27]⟩
abbrev S60x30 : Shape := ⟨2, ![60, 30]⟩
abbrev S60x10 : Shape := ⟨2, ![60, 10]⟩
abbrev S27x8 : Shape := ⟨2, ![27, 8]⟩
abbrev S60x135 : Shape := ⟨2, ![60, 135]⟩
abbrev S8x135 : Shape := ⟨2, ![8, 135]⟩
abbrev S27x27 : Shape := ⟨2, ![27, 27]⟩
abbrev S27 : Shape := ⟨1, ![27]⟩
abbrev S27x135 : Shape := ⟨2, ![27, 135]⟩
abbrev S135 : Shape := ⟨1, ![135]⟩
abbrev S4096x37x11 : Shape := ⟨3, ![4096, 37, 11]⟩
abbrev S4096x37x19 : Shape := ⟨3, ![4096, 37, 19]⟩
abbrev S4096x37x1 : Shape := ⟨3, ![4096, 37, 1]⟩
abbrev S4096x37 : Shape := ⟨2, ![4096, 37]⟩
abbrev S4096x37x3 : Shape := ⟨3, ![4096, 37, 3]⟩
abbrev S4096x37x7 : Shape := ⟨3, ![4096, 37, 7]⟩
abbrev S_ : Shape := ⟨0, ![]⟩
abbrev S1 : Shape := ⟨1, ![1]⟩
abbrev S1x1x1 : Shape := ⟨3, ![1, 1, 1]⟩
abbrev S4096x37x3x1 : Shape := ⟨4, ![4096, 37, 3, 1]⟩
abbrev S1x1x1x1 : Shape := ⟨4, ![1, 1, 1, 1]⟩
abbrev S4096x37x3x10 : Shape := ⟨4, ![4096, 37, 3, 10]⟩
abbrev S4096x37x7x1 : Shape := ⟨4, ![4096, 37, 7, 1]⟩
abbrev S4096x37x7x8 : Shape := ⟨4, ![4096, 37, 7, 8]⟩
abbrev S4096x37x56 : Shape := ⟨3, ![4096, 37, 56]⟩
abbrev S4096x37x135 : Shape := ⟨3, ![4096, 37, 135]⟩
abbrev S4096x10x1 : Shape := ⟨3, ![4096, 10, 1]⟩
abbrev S4096x10x135 : Shape := ⟨3, ![4096, 10, 135]⟩
abbrev S1x27 : Shape := ⟨2, ![1, 27]⟩
abbrev S4096x135 : Shape := ⟨2, ![4096, 135]⟩
abbrev S1x135 : Shape := ⟨2, ![1, 135]⟩
abbrev S4096x1x135 : Shape := ⟨3, ![4096, 1, 135]⟩
abbrev S4096x1 : Shape := ⟨2, ![4096, 1]⟩
abbrev S4096x3 : Shape := ⟨2, ![4096, 3]⟩
abbrev S4096x6 : Shape := ⟨2, ![4096, 6]⟩
abbrev S4096x4 : Shape := ⟨2, ![4096, 4]⟩
abbrev S4096x4x1 : Shape := ⟨3, ![4096, 4, 1]⟩
abbrev S4096x4x135 : Shape := ⟨3, ![4096, 4, 135]⟩
abbrev S4096x6x1 : Shape := ⟨3, ![4096, 6, 1]⟩
abbrev S1x1x135 : Shape := ⟨3, ![1, 1, 135]⟩
abbrev S4096x6x135 : Shape := ⟨3, ![4096, 6, 135]⟩
abbrev S4096x58x135 : Shape := ⟨3, ![4096, 58, 135]⟩

abbrev nBuf : Space → Nat
  | .hbm => 198
  | .vmem => 0
  | .smem => 0
  | _ => 0

abbrev hbmTy0_0 (i : Nat) : BufTy := match i % 128 with
  | 0 => ⟨S4096x37x30, .f32⟩
  | 1 => ⟨S4096x10, .f32⟩
  | 2 => ⟨S4096x27, .f32⟩
  | 3 => ⟨S4096x10, .f32⟩
  | 4 => ⟨S60x30, .f32⟩
  | 5 => ⟨S60x10, .f32⟩
  | 6 => ⟨S27x8, .f32⟩
  | 7 => ⟨S60x135, .f32⟩
  | 8 => ⟨S8x135, .f32⟩
  | 9 => ⟨S27x27, .f32⟩
  | 10 => ⟨S27, .f32⟩
  | 11 => ⟨S27x135, .f32⟩
  | 12 => ⟨S135, .f32⟩
  | 13 => ⟨S4096x37x11, .f32⟩
  | 14 => ⟨S4096x37x11, .i32⟩
  | 15 => ⟨S4096x37x19, .f32⟩
  | 16 => ⟨S4096x37x1, .i32⟩
  | 17 => ⟨S4096x37, .i32⟩
  | 18 => ⟨S4096x37x3, .i32⟩
  | 19 => ⟨S4096x37x7, .i32⟩
  | 20 => ⟨S_, .i32⟩
  | 21 => ⟨S4096x37, .i32⟩
  | 22 => ⟨S4096x37, .i1⟩
  | 23 => ⟨S_, .i32⟩
  | 24 => ⟨S4096x37, .i32⟩
  | 25 => ⟨S4096x37, .i32⟩
  | 26 => ⟨S4096x37, .i32⟩
  | 27 => ⟨S4096x37x1, .i32⟩
  | 28 => ⟨S1, .i32⟩
  | 29 => ⟨S_, .i32⟩
  | 30 => ⟨S4096x37x1, .i32⟩
  | 31 => ⟨S4096x37x1, .i1⟩
  | 32 => ⟨S1x1x1, .i32⟩
  | 33 => ⟨S4096x37x1, .i32⟩
  | 34 => ⟨S4096x37x1, .i1⟩
  | 35 => ⟨S4096x37x1, .i1⟩
  | 36 => ⟨S_, .i1⟩
  | 37 => ⟨S4096x37, .i1⟩
  | 38 => ⟨S4096x37x30, .f32⟩
  | 39 => ⟨S4096x37x30, .i1⟩
  | 40 => ⟨S_, .f32⟩
  | 41 => ⟨S4096x37x30, .f32⟩
  | 42 => ⟨S4096x37x30, .f32⟩
  | 43 => ⟨S_, .i32⟩
  | 44 => ⟨S4096x37x3, .i32⟩
  | 45 => ⟨S4096x37x3, .i1⟩
  | 46 => ⟨S_, .i32⟩
  | 47 => ⟨S4096x37x3, .i32⟩
  | 48 => ⟨S4096x37x3, .i32⟩
  | 49 => ⟨S4096x37x3, .i32⟩
  | 50 => ⟨S4096x37x3x1, .i32⟩
  | 51 => ⟨S1, .i32⟩
  | 52 => ⟨S_, .i32⟩
  | 53 => ⟨S4096x37x3x1, .i32⟩
  | 54 => ⟨S4096x37x3x1, .i1⟩
  | 55 => ⟨S1x1x1x1, .i32⟩
  | 56 => ⟨S4096x37x3x1, .i32⟩
  | 57 => ⟨S4096x37x3x1, .i1⟩
  | 58 => ⟨S4096x37x3x1, .i1⟩
  | 59 => ⟨S_, .i1⟩
  | 60 => ⟨S4096x37x3, .i1⟩
  | 61 => ⟨S4096x37x3x10, .f32⟩
  | 62 => ⟨S4096x37x3x10, .i1⟩
  | 63 => ⟨S_, .f32⟩
  | 64 => ⟨S4096x37x3x10, .f32⟩
  | 65 => ⟨S4096x37x3x10, .f32⟩
  | 66 => ⟨S_, .i32⟩
  | 67 => ⟨S4096x37x7, .i32⟩
  | 68 => ⟨S4096x37x7, .i1⟩
  | 69 => ⟨S_, .i32⟩
  | 70 => ⟨S4096x37x7, .i32⟩
  | 71 => ⟨S4096x37x7, .i32⟩
  | 72 => ⟨S4096x37x7, .i32⟩
  | 73 => ⟨S4096x37x7x1, .i32⟩
  | 74 => ⟨S1, .i32⟩
  | 75 => ⟨S_, .i32⟩
  | 76 => ⟨S4096x37x7x1, .i32⟩
  | 77 => ⟨S4096x37x7x1, .i1⟩
  | 78 => ⟨S1x1x1x1, .i32⟩
  | 79 => ⟨S4096x37x7x1, .i32⟩
  | 80 => ⟨S4096x37x7x1, .i1⟩
  | 81 => ⟨S4096x37x7x1, .i1⟩
  | 82 => ⟨S_, .i1⟩
  | 83 => ⟨S4096x37x7, .i1⟩
  | 84 => ⟨S4096x37x7x8, .f32⟩
  | 85 => ⟨S4096x37x7x8, .i1⟩
  | 86 => ⟨S_, .f32⟩
  | 87 => ⟨S4096x37x7x8, .f32⟩
  | 88 => ⟨S4096x37x7x8, .f32⟩
  | 89 => ⟨S4096x37x30, .f32⟩
  | 90 => ⟨S4096x37x56, .f32⟩
  | 91 => ⟨S4096x37x135, .f32⟩
  | 92 => ⟨S4096x10, .i32⟩
  | 93 => ⟨S_, .i32⟩
  | 94 => ⟨S4096x10, .i32⟩
  | 95 => ⟨S4096x10, .i1⟩
  | 96 => ⟨S_, .i32⟩
  | 97 => ⟨S4096x10, .i32⟩
  | 98 => ⟨S4096x10, .i32⟩
  | 99 => ⟨S4096x10, .i32⟩
  | 100 => ⟨S4096x10x1, .i32⟩
  | 101 => ⟨S1, .i32⟩
  | 102 => ⟨S_, .i32⟩
  | 103 => ⟨S4096x10x1, .i32⟩
  | 104 => ⟨S4096x10x1, .i1⟩
  | 105 => ⟨S1x1x1, .i32⟩
  | 106 => ⟨S4096x10x1, .i32⟩
  | 107 => ⟨S4096x10x1, .i1⟩
  | 108 => ⟨S4096x10x1, .i1⟩
  | 109 => ⟨S_, .i1⟩
  | 110 => ⟨S4096x10, .i1⟩
  | 111 => ⟨S4096x10x135, .f32⟩
  | 112 => ⟨S4096x10x135, .i1⟩
  | 113 => ⟨S_, .f32⟩
  | 114 => ⟨S4096x10x135, .f32⟩
  | 115 => ⟨S4096x10x135, .f32⟩
  | 116 => ⟨S4096x27, .f32⟩
  | 117 => ⟨S1x27, .f32⟩
  | 118 => ⟨S4096x27, .f32⟩
  | 119 => ⟨S4096x27, .f32⟩
  | 120 => ⟨S_, .f32⟩
  | 121 => ⟨S4096x27, .f32⟩
  | 122 => ⟨S4096x27, .f32⟩
  | 123 => ⟨S4096x135, .f32⟩
  | 124 => ⟨S1x135, .f32⟩
  | 125 => ⟨S4096x135, .f32⟩
  | 126 => ⟨S4096x135, .f32⟩
  | 127 => ⟨S4096x1x135, .f32⟩
  | _ => ⟨S4096x37x30, .f32⟩

abbrev hbmTy0_1 (i : Nat) : BufTy := match i % 128 with
  | 0 => ⟨S4096x1, .f32⟩
  | 1 => ⟨S4096x3, .f32⟩
  | 2 => ⟨S4096x6, .f32⟩
  | 3 => ⟨S4096x4, .f32⟩
  | 4 => ⟨S4096x4, .i32⟩
  | 5 => ⟨S_, .i32⟩
  | 6 => ⟨S4096x4, .i32⟩
  | 7 => ⟨S4096x4, .i1⟩
  | 8 => ⟨S_, .i32⟩
  | 9 => ⟨S4096x4, .i32⟩
  | 10 => ⟨S4096x4, .i32⟩
  | 11 => ⟨S4096x4, .i32⟩
  | 12 => ⟨S4096x4x1, .i32⟩
  | 13 => ⟨S1, .i32⟩
  | 14 => ⟨S_, .i32⟩
  | 15 => ⟨S4096x4x1, .i32⟩
  | 16 => ⟨S4096x4x1, .i1⟩
  | 17 => ⟨S1x1x1, .i32⟩
  | 18 => ⟨S4096x4x1, .i32⟩
  | 19 => ⟨S4096x4x1, .i1⟩
  | 20 => ⟨S4096x4x1, .i1⟩
  | 21 => ⟨S_, .i1⟩
  | 22 => ⟨S4096x4, .i1⟩
  | 23 => ⟨S4096x4x135, .f32⟩
  | 24 => ⟨S4096x4x135, .i1⟩
  | 25 => ⟨S_, .f32⟩
  | 26 => ⟨S4096x4x135, .f32⟩
  | 27 => ⟨S4096x4x135, .f32⟩
  | 28 => ⟨S_, .f32⟩
  | 29 => ⟨S_, .f32⟩
  | 30 => ⟨S_, .f32⟩
  | 31 => ⟨S4096x6, .f32⟩
  | 32 => ⟨S4096x6, .f32⟩
  | 33 => ⟨S_, .f32⟩
  | 34 => ⟨S4096x6, .f32⟩
  | 35 => ⟨S4096x6, .f32⟩
  | 36 => ⟨S_, .f32⟩
  | 37 => ⟨S4096x6, .f32⟩
  | 38 => ⟨S4096x6, .f32⟩
  | 39 => ⟨S_, .f32⟩
  | 40 => ⟨S4096x6, .f32⟩
  | 41 => ⟨S4096x6, .f32⟩
  | 42 => ⟨S4096x6, .f32⟩
  | 43 => ⟨S4096x6, .f32⟩
  | 44 => ⟨S_, .f32⟩
  | 45 => ⟨S4096x6, .f32⟩
  | 46 => ⟨S4096x6, .f32⟩
  | 47 => ⟨S135, .f32⟩
  | 48 => ⟨S4096x6x1, .f32⟩
  | 49 => ⟨S_, .f32⟩
  | 50 => ⟨S4096x6x1, .f32⟩
  | 51 => ⟨S4096x6x1, .f32⟩
  | 52 => ⟨S1x1x135, .f32⟩
  | 53 => ⟨S4096x6x135, .f32⟩
  | 54 => ⟨S4096x6x135, .f32⟩
  | 55 => ⟨S4096x6x135, .i1⟩
  | 56 => ⟨S4096x6x135, .f32⟩
  | 57 => ⟨S4096x6x1, .f32⟩
  | 58 => ⟨S4096x6x135, .f32⟩
  | 59 => ⟨S4096x6x135, .f32⟩
  | 60 => ⟨S1x1x135, .f32⟩
  | 61 => ⟨S4096x6x135, .f32⟩
  | 62 => ⟨S4096x6x135, .f32⟩
  | 63 => ⟨S4096x6x135, .i1⟩
  | 64 => ⟨S4096x6x135, .f32⟩
  | 65 => ⟨S4096x6x1, .f32⟩
  | 66 => ⟨S4096x6x135, .f32⟩
  | 67 => ⟨S4096x6x135, .f32⟩
  | 68 => ⟨S4096x6x135, .f32⟩
  | 69 => ⟨S4096x58x135, .f32⟩
  | _ => ⟨S4096x37x30, .f32⟩

abbrev hbmTy (i : Nat) : BufTy := match i / 128 with
  | 0 => hbmTy0_0 i
  | 1 => hbmTy0_1 i
  | _ => ⟨S4096x37x30, .f32⟩

abbrev bufTy : (tb : Table) → Fin (tcTables nBuf tb) → BufTy
  | .hbm, ⟨i, _⟩ => hbmTy i
  | _, _ => ⟨S4096x37x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v7 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v8 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v9 : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_v13 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v14 : Ref sig .tc := ⟨.hbm, 115, rfl⟩
abbrev main_v15 : Ref sig .tc := ⟨.hbm, 116, rfl⟩
abbrev main_v16 : Ref sig .tc := ⟨.hbm, 117, rfl⟩
abbrev main_v17 : Ref sig .tc := ⟨.hbm, 118, rfl⟩
abbrev main_v18 : Ref sig .tc := ⟨.hbm, 119, rfl⟩
abbrev main_call4_cst : Ref sig .tc := ⟨.hbm, 120, rfl⟩
abbrev main_call4_v0 : Ref sig .tc := ⟨.hbm, 121, rfl⟩
abbrev main_v19 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_call5_c : Ref sig .tc := ⟨.hbm, 133, rfl⟩
abbrev main_call5_v0 : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_c_1 : Ref sig .tc := ⟨.hbm, 141, rfl⟩
abbrev main_call5_c_2 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_c_3 : Ref sig .tc := ⟨.hbm, 149, rfl⟩
abbrev main_call5_v12 : Ref sig .tc := ⟨.hbm, 150, rfl⟩
abbrev main_call5_v13 : Ref sig .tc := ⟨.hbm, 151, rfl⟩
abbrev main_call5_v14 : Ref sig .tc := ⟨.hbm, 152, rfl⟩
abbrev main_call5_cst : Ref sig .tc := ⟨.hbm, 153, rfl⟩
abbrev main_call5_v15 : Ref sig .tc := ⟨.hbm, 154, rfl⟩
abbrev main_v30 : Ref sig .tc := ⟨.hbm, 155, rfl⟩
abbrev main_cst : Ref sig .tc := ⟨.hbm, 156, rfl⟩
abbrev main_cst_0 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_call6_v3 : Ref sig .tc := ⟨.hbm, 161, rfl⟩
abbrev main_call6_v4 : Ref sig .tc := ⟨.hbm, 162, rfl⟩
abbrev main_v31 : Ref sig .tc := ⟨.hbm, 163, rfl⟩
abbrev main_cst_1 : Ref sig .tc := ⟨.hbm, 164, rfl⟩
abbrev main_v32 : Ref sig .tc := ⟨.hbm, 165, rfl⟩
abbrev main_v33 : Ref sig .tc := ⟨.hbm, 166, rfl⟩
abbrev main_cst_2 : Ref sig .tc := ⟨.hbm, 167, rfl⟩
abbrev main_v34 : Ref sig .tc := ⟨.hbm, 168, rfl⟩
abbrev main_v35 : Ref sig .tc := ⟨.hbm, 169, rfl⟩
abbrev main_v36 : Ref sig .tc := ⟨.hbm, 170, rfl⟩
abbrev main_v37 : Ref sig .tc := ⟨.hbm, 171, rfl⟩
abbrev main_cst_3 : Ref sig .tc := ⟨.hbm, 172, rfl⟩
abbrev main_v38 : Ref sig .tc := ⟨.hbm, 173, rfl⟩
abbrev main_v39 : Ref sig .tc := ⟨.hbm, 174, rfl⟩
abbrev main_v40 : Ref sig .tc := ⟨.hbm, 175, rfl⟩
abbrev main_v41 : Ref sig .tc := ⟨.hbm, 176, rfl⟩
abbrev main_cst_4 : Ref sig .tc := ⟨.hbm, 177, rfl⟩
abbrev main_v42 : Ref sig .tc := ⟨.hbm, 178, rfl⟩
abbrev main_v43 : Ref sig .tc := ⟨.hbm, 179, rfl⟩
abbrev main_v44 : Ref sig .tc := ⟨.hbm, 180, rfl⟩
abbrev main_v45 : Ref sig .tc := ⟨.hbm, 181, rfl⟩
abbrev main_v46 : Ref sig .tc := ⟨.hbm, 182, rfl⟩
abbrev main_v47 : Ref sig .tc := ⟨.hbm, 183, rfl⟩
abbrev main_v48 : Ref sig .tc := ⟨.hbm, 184, rfl⟩
abbrev main_v49 : Ref sig .tc := ⟨.hbm, 185, rfl⟩
abbrev main_v50 : Ref sig .tc := ⟨.hbm, 186, rfl⟩
abbrev main_v51 : Ref sig .tc := ⟨.hbm, 187, rfl⟩
abbrev main_v52 : Ref sig .tc := ⟨.hbm, 188, rfl⟩
abbrev main_v53 : Ref sig .tc := ⟨.hbm, 189, rfl⟩
abbrev main_v54 : Ref sig .tc := ⟨.hbm, 190, rfl⟩
abbrev main_v55 : Ref sig .tc := ⟨.hbm, 191, rfl⟩
abbrev main_v56 : Ref sig .tc := ⟨.hbm, 192, rfl⟩
abbrev main_v57 : Ref sig .tc := ⟨.hbm, 193, rfl⟩
abbrev main_v58 : Ref sig .tc := ⟨.hbm, 194, rfl⟩
abbrev main_v59 : Ref sig .tc := ⟨.hbm, 195, rfl⟩
abbrev main_v60 : Ref sig .tc := ⟨.hbm, 196, rfl⟩
abbrev main_v61 : Ref sig .tc := ⟨.hbm, 197, rfl⟩

abbrev nD : Nat := 1
abbrev τ : Topo := Topo.v7x

variable {F : FTy → Type} [FloatOps F]
-- ==== Proof.Take.lean ====
/- Rows taken from a table by an array of row numbers: the gather, and the masked form that fills rows out of range. -/
module

public import Idealize.ShloMosaic.Lib.StableHlo.Predicate
public import Idealize.ShloMosaic.Lib.Pipeline.ValueKit
public import Idealize.ShloMosaic.Lib.ReduceAll
public import Idealize.ShloMosaic.Lib.WordCmp
public import Idealize.ShloMosaic.PureOps.Ideal

@[expose] public section

noncomputable section

namespace Cert.Board

open Idealize.ShloMosaic Idealize.ShloMosaic.TcCoe

/-- A word of a small number, read as a signed integer. -/
theorem word_toInt {n : Nat} (h : n < 2 ^ 31) : (BitVec.ofNat 32 n).toInt = (n : Int) := StableHlo.Predicate.toInt_ofNat_small _ h

/-- A row number that is not negative is left as it is. -/
theorem unwrapped {n : Nat} (h : n < 2 ^ 31) (v : BitVec 32) : Scalar.select (IntOp.cmpi .slt (BitVec.ofNat 32 n) 0#32) v (BitVec.ofNat 32 n) = BitVec.ofNat 32 n := by
  have e : IntOp.cmpi .slt (BitVec.ofNat 32 n) 0#32 = 0#1 := by
    show BitVec.ofBool (decide ((BitVec.ofNat 32 n).toInt < (0#32).toInt)) = _
    rw [word_toInt h, show (0#32).toInt = (0 : Int) from rfl, decide_eq_false (not_lt.2 (Int.natCast_nonneg n))]
    rfl
  rw [e]
  rfl

/-- The range test passes for a row number in range. -/
theorem in_range {n N : Nat} (h : n < N) (hN : N ≤ 2 ^ 31) :
    IntOp.andi (IntOp.cmpi .sge (BitVec.ofNat 32 n) 0#32) (IntOp.cmpi .sle (BitVec.ofNat 32 n) (BitVec.ofNat 32 (N - 1))) = 1#1 := by
  have e : IntOp.cmpi .sge (BitVec.ofNat 32 n) 0#32 = 1#1 := by
    show BitVec.ofBool (decide ((0#32).toInt ≤ (BitVec.ofNat 32 n).toInt)) = _
    have z : (0#32).toInt = (0 : Int) := rfl
    rw [z, word_toInt (by omega), decide_eq_true (show (0 : Int) ≤ n from Int.natCast_nonneg n)]
    rfl
  have f : IntOp.cmpi .sle (BitVec.ofNat 32 n) (BitVec.ofNat 32 (N - 1)) = 1#1 := by
    show BitVec.ofBool (decide ((BitVec.ofNat 32 n).toInt ≤ (BitVec.ofNat 32 (N - 1)).toInt)) = _
    rw [word_toInt (by omega), word_toInt (by omega), decide_eq_true (by omega)]
    rfl
  rw [e, f]
  rfl

/-- Rows of width `w` taken by a matrix of row numbers. -/
abbrev rowDims (N B K w : Nat) (wf : GatherDims.WF ⟨2, ![N, w]⟩ ⟨3, ![B, K, 1]⟩ ⟨3, ![B, K, w]⟩ [2] [0] [] [0] [] 2 ![1, w]) :
    GatherDims ⟨2, ![N, w]⟩ ⟨3, ![B, K, 1]⟩ ⟨3, ![B, K, w]⟩ where
  offsetDims := [2]
  collapsedSliceDims := [0]
  operandBatchingDims := []
  startIndicesBatchingDims := []
  startIndexMap := [0]
  indexVectorDim := 2
  sliceSizes := ![1, w]
  wf := wf

/-- Rows of width `w` taken by a cube of row numbers. -/
abbrev cubeDims (N B C K w : Nat) (wf : GatherDims.WF ⟨2, ![N, w]⟩ ⟨4, ![B, C, K, 1]⟩ ⟨4, ![B, C, K, w]⟩ [3] [0] [] [0] [] 3 ![1, w]) :
    GatherDims ⟨2, ![N, w]⟩ ⟨4, ![B, C, K, 1]⟩ ⟨4, ![B, C, K, w]⟩ where
  offsetDims := [3]
  collapsedSliceDims := [0]
  operandBatchingDims := []
  startIndicesBatchingDims := []
  startIndexMap := [0]
  indexVectorDim := 3
  sliceSizes := ![1, w]
  wf := wf

/-- The gather by a matrix of row numbers reads the row that the number names. -/
theorem gather_rows {N B K w : Nat} (wf) (T : (⟨2, ![N, w]⟩ : Shape).Idx → EReal) (idx : IVec ⟨3, ![B, K, 1]⟩ 32) (b : Fin B) (k : Fin K) (d : Fin w) (n : Fin N)
    (hN : N ≤ 2 ^ 31) (hn : idx (ix3 b k (0 : Fin 1)) = BitVec.ofNat 32 n.val) : Host.gather (rowDims N B K w wf) T idx (ix3 b k d) = T (ix2 n d) := by
  have hlt := n.isLt
  unfold Host.gather
  refine congrArg T (funext fun a => Fin.ext ?_)
  show (rowDims N B K w wf).start (ix3 b k d) idx a + (rowDims N B K w wf).batchCoord (ix3 b k d) a + (rowDims N B K w wf).offCoord (ix3 b k d) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N B K w wf).startIndexMap from List.mem_singleton.mpr rfl)]
    have hsi : (rowDims N B K w wf).siIdx (ix3 b k d) ⟨List.idxOf (0 : Fin 2) (rowDims N B K w wf).startIndexMap,
        List.idxOf_lt_length_iff.2 (List.mem_singleton.mpr rfl)⟩ = ix3 b k (0 : Fin 1) := by
      funext b; refine Fin.ext ?_
      match b with
      | ⟨0, _⟩ => rfl
      | ⟨1, _⟩ => rfl
      | ⟨2, _⟩ => rfl
    rw [hsi, hn, word_toInt (by omega)]
    show min n.val (N - 1) + 0 + 0 = n.val
    omega
  · have e : (rowDims N B K w wf).start (ix3 b k d) idx 1 = 0 := by
      unfold GatherDims.start
      exact dif_neg (by show (1 : Fin 2) ∉ [(0 : Fin 2)]; decide)
    refine (congrArg (fun z => z + 0 + _) e).trans ?_
    simp only [Nat.zero_add]
    unfold GatherDims.offCoord
    exact (dif_pos ((GatherDims.mem_sKept _ _).mpr ⟨by show (1 : Fin 2) ∉ [(0 : Fin 2)]; decide, List.not_mem_nil⟩)).trans rfl

/-- The gather by a cube of row numbers reads the row that the number names. -/
theorem gather_cube {N B C K w : Nat} (wf) (T : (⟨2, ![N, w]⟩ : Shape).Idx → EReal) (idx : IVec ⟨4, ![B, C, K, 1]⟩ 32) (b : Fin B) (c : Fin C) (k : Fin K) (d : Fin w)
    (n : Fin N) (hN : N ≤ 2 ^ 31) (hn : idx (ix4 b c k (0 : Fin 1)) = BitVec.ofNat 32 n.val) :
    Host.gather (cubeDims N B C K w wf) T idx (ix4 b c k d) = T (ix2 n d) := by
  have hlt := n.isLt
  unfold Host.gather
  refine congrArg T (funext fun a => Fin.ext ?_)
  show (cubeDims N B C K w wf).start (ix4 b c k d) idx a + (cubeDims N B C K w wf).batchCoord (ix4 b c k d) a + (cubeDims N B C K w wf).offCoord (ix4 b c k d) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (cubeDims N B C K w wf).startIndexMap from List.mem_singleton.mpr rfl)]
    have hsi : (cubeDims N B C K w wf).siIdx (ix4 b c k d) ⟨List.idxOf (0 : Fin 2) (cubeDims N B C K w wf).startIndexMap,
        List.idxOf_lt_length_iff.2 (List.mem_singleton.mpr rfl)⟩ = ix4 b c k (0 : Fin 1) := by
      funext b; refine Fin.ext ?_
      match b with
      | ⟨0, _⟩ => rfl
      | ⟨1, _⟩ => rfl
      | ⟨2, _⟩ => rfl
      | ⟨3, _⟩ => rfl
    rw [hsi, hn, word_toInt (by omega)]
    show min n.val (N - 1) + 0 + 0 = n.val
    omega
  · have e : (cubeDims N B C K w wf).start (ix4 b c k d) idx 1 = 0 := by
      unfold GatherDims.start
      exact dif_neg (by show (1 : Fin 2) ∉ [(0 : Fin 2)]; decide)
    refine (congrArg (fun z => z + 0 + _) e).trans ?_
    simp only [Nat.zero_add]
    unfold GatherDims.offCoord
    exact (dif_pos ((GatherDims.mem_sKept _ _).mpr ⟨by show (1 : Fin 2) ∉ [(0 : Fin 2)]; decide, List.not_mem_nil⟩)).trans rfl

/-- The masked take by a matrix of row numbers, all in range. -/
theorem take_rows {N B K w : Nat} (wf) (T : (⟨2, ![N, w]⟩ : Shape).Idx → EReal) (idx z l : IVec ⟨3, ![B, K, 1]⟩ 32) (f : (⟨3, ![B, K, w]⟩ : Shape).Idx → EReal)
    (n : Fin B → Fin K → Fin N) (hN : N ≤ 2 ^ 31) (hn : ∀ b k, idx (ix3 b k (0 : Fin 1)) = BitVec.ofNat 32 (n b k).val) (hz : ∀ i, z i = 0#32)
    (hl : ∀ i, l i = BitVec.ofNat 32 (N - 1)) {u : Shape} (init : u.Idx → BitVec 1) (hi : ∀ i, init i = 1#1) (hu : 0 < u.numel)
    (hr : (⟨3, ![B, K, 1]⟩ : Shape).ReducesTo [2] ⟨2, ![B, K]⟩) (hb : (⟨2, ![B, K]⟩ : Shape).BroadcastsInDim ⟨3, ![B, K, w]⟩ ![0, 1]) (b : Fin B) (k : Fin K) (d : Fin w) :
    select (broadcastInDim ⟨3, ![B, K, w]⟩ ![0, 1] hb (Host.reduce IntOp.andi (andi (cmpi .sge idx z) (cmpi .sle idx l)) init hr hu))
      (Host.gather (rowDims N B K w wf) T idx) f (ix3 b k d) = T (ix2 (n b k) d) := by
  have e : ∀ j, Host.reduce IntOp.andi (andi (cmpi .sge idx z) (cmpi .sle idx l)) init hr hu j = 1#1 := fun j =>
    Host.reduce_andi_one _ _ _ _ _ (hi _) fun i => by
      have ei : i = ix3 (i 0) (i 1) (0 : Fin 1) := funext fun a => by
        match a with
        | ⟨0, _⟩ => rfl
        | ⟨1, _⟩ => rfl
        | ⟨2, _⟩ => exact Subsingleton.elim (α := Fin 1) _ _
      have hx : idx i = BitVec.ofNat 32 (n (i 0) (i 1)).val := (congrArg idx ei).trans (hn _ _)
      show IntOp.andi (IntOp.cmpi .sge (idx i) (z i)) (IntOp.cmpi .sle (idx i) (l i)) = 1#1
      rw [hx, hz, hl]
      exact in_range (n _ _).isLt hN
  refine Eq.trans (b := Scalar.select 1#1 (Host.gather (rowDims N B K w wf) T idx (ix3 b k d)) (f (ix3 b k d))) (congrArg (fun q => Scalar.select q _ _) (e _)) ?_
  exact gather_rows wf T idx b k d (n b k) hN (hn b k)

/-- The masked take by a cube of row numbers, all in range. -/
theorem take_cube {N B C K w : Nat} (wf) (T : (⟨2, ![N, w]⟩ : Shape).Idx → EReal) (idx z l : IVec ⟨4, ![B, C, K, 1]⟩ 32) (f : (⟨4, ![B, C, K, w]⟩ : Shape).Idx → EReal)
    (n : Fin B → Fin C → Fin K → Fin N) (hN : N ≤ 2 ^ 31) (hn : ∀ b c k, idx (ix4 b c k (0 : Fin 1)) = BitVec.ofNat 32 (n b c k).val) (hz : ∀ i, z i = 0#32)
    (hl : ∀ i, l i = BitVec.ofNat 32 (N - 1)) {u : Shape} (init : u.Idx → BitVec 1) (hi : ∀ i, init i = 1#1) (hu : 0 < u.numel)
    (hr : (⟨4, ![B, C, K, 1]⟩ : Shape).ReducesTo [3] ⟨3, ![B, C, K]⟩) (hb : (⟨3, ![B, C, K]⟩ : Shape).BroadcastsInDim ⟨4, ![B, C, K, w]⟩ ![0, 1, 2])
    (b : Fin B) (c : Fin C) (k : Fin K) (d : Fin w) :
    select (broadcastInDim ⟨4, ![B, C, K, w]⟩ ![0, 1, 2] hb (Host.reduce IntOp.andi (andi (cmpi .sge idx z) (cmpi .sle idx l)) init hr hu))
      (Host.gather (cubeDims N B C K w wf) T idx) f (ix4 b c k d) = T (ix2 (n b c k) d) := by
  have e : ∀ j, Host.reduce IntOp.andi (andi (cmpi .sge idx z) (cmpi .sle idx l)) init hr hu j = 1#1 := fun j =>
    Host.reduce_andi_one _ _ _ _ _ (hi _) fun i => by
      have ei : i = ix4 (i 0) (i 1) (i 2) (0 : Fin 1) := funext fun a => by
        match a with
        | ⟨0, _⟩ => rfl
        | ⟨1, _⟩ => rfl
        | ⟨2, _⟩ => rfl
        | ⟨3, _⟩ => exact Subsingleton.elim (α := Fin 1) _ _
      have hx : idx i = BitVec.ofNat 32 (n (i 0) (i 1) (i 2)).val := (congrArg idx ei).trans (hn _ _ _)
      show IntOp.andi (IntOp.cmpi .sge (idx i) (z i)) (IntOp.cmpi .sle (idx i) (l i)) = 1#1
      rw [hx, hz, hl]
      exact in_range (n _ _ _).isLt hN
  refine Eq.trans (b := Scalar.select 1#1 (Host.gather (cubeDims N B C K w wf) T idx (ix4 b c k d)) (f (ix4 b c k d))) (congrArg (fun q => Scalar.select q _ _) (e _)) ?_
  exact gather_cube wf T idx b c k d (n b c k) hN (hn b c k)

end Cert.Board

end
-- ==== Proof.Ids.lean ====
/- Real numbers that name a row: what `floor`, the two clips and the conversion to an integer make of a float `x` with `0 ≤ x < n`. -/
module

public import Idealize.ShloMosaic.Lib.Pointwise
public import Idealize.ShloMosaic.Lib.IdealHost

@[expose] public section

noncomputable section

namespace Cert.Board

open Idealize.ShloMosaic

/-- The natural number below `x`: its floor where `x` is a nonnegative real, else 0. -/
def idOf (x : EReal) : Nat := ⌊x.toReal⌋.toNat

/-- The row of a table of `n` rows that `x` names, the last one where `idOf x` is too large. -/
def row (n : Nat) [NeZero n] (x : EReal) : Fin n := ⟨min (idOf x) (n - 1), by have := NeZero.pos n; omega⟩

/-- `x` names one of the rows `0 … n - 1`. -/
def Names (n : Nat) (x : EReal) : Prop := 0 ≤ x ∧ x < (n : ℝ)

variable {n : Nat} {x : EReal}

/-- A float that names a row is a real between `0` and `n`. -/
theorem Names.real (h : Names n x) : ∃ r : ℝ, x = (r : EReal) ∧ 0 ≤ r ∧ r < n := by
  obtain ⟨h0, h1⟩ := h
  induction x using EReal.rec with
  | bot => simp at h0
  | top => simp at h1
  | coe r => exact ⟨r, rfl, by exact_mod_cast h0, by exact_mod_cast h1⟩

/-- The number below a nonnegative real is its floor. -/
theorem idOf_coe {r : ℝ} (h0 : 0 ≤ r) : ((idOf (r : EReal) : Nat) : Int) = ⌊r⌋ := by
  unfold idOf
  rw [EReal.toReal_coe]
  exact Int.toNat_of_nonneg (Int.floor_nonneg.2 h0)

/-- The number below a float that names a row is a row number. -/
theorem Names.lt (h : Names n x) : idOf x < n := by
  obtain ⟨r, rfl, h0, h1⟩ := h.real
  have := idOf_coe h0
  have h2 : ⌊r⌋ < (n : Int) := Int.floor_lt.2 (by exact_mod_cast h1)
  omega

/-- The row that a float in range names is the number below it. -/
theorem Names.row_val [NeZero n] (h : Names n x) : (row n x).val = idOf x := by
  have := h.lt
  show min (idOf x) (n - 1) = idOf x
  omega

/-- `floor` of a float in range is the number below it. -/
theorem Names.floor (h : Names n x) : Ideal.liftRound Int.floor x = ((idOf x : ℝ) : EReal) := by
  obtain ⟨r, rfl, h0, h1⟩ := h.real
  have := idOf_coe h0
  show (((⌊r⌋ : Int) : ℝ) : EReal) = _
  rw [← this]
  simp

/-- Clipping a number `k ≤ m` at `0` and at `m` changes nothing. -/
theorem clip_nat {k m : Nat} (h : k ≤ m) : min ((m : ℝ) : EReal) (max 0 ((k : ℝ) : EReal)) = ((k : ℝ) : EReal) := by
  rw [max_eq_right (by exact_mod_cast Nat.zero_le k), min_eq_right (by exact_mod_cast h)]

/-- The conversion of a natural number to a 32-bit integer is its word. -/
theorem fptosi_nat {k : Nat} (h : k < 2 ^ 31) : Ideal.toIntClamped (-(2 ^ (32 - 1))) (2 ^ (32 - 1) - 1) ((k : ℝ) : EReal) = (k : Int) := by
  rw [Ideal.toIntClamped_coe]
  rw [if_pos (by positivity)]
  simp only [Int.floor_natCast]
  omega

/-- The conversion of a float in range to a 32-bit integer, which rounds toward zero, is the number below it. -/
theorem Names.toInt (h : Names n x) (hn : n ≤ 2 ^ 31) : Ideal.toIntClamped (-(2 ^ (32 - 1))) (2 ^ (32 - 1) - 1) x = (idOf x : Int) := by
  have hlt := h.lt
  obtain ⟨r, rfl, h0, h1⟩ := h.real
  have := idOf_coe h0
  rw [Ideal.toIntClamped_coe, if_pos h0]
  omega

/-- Two naturals are the same float exactly when they are equal. -/
theorem coe_nat_inj {a b : Nat} : (((a : ℝ) : EReal) = ((b : ℝ) : EReal)) ↔ a = b := by
  rw [EReal.coe_eq_coe_iff]
  exact_mod_cast Iff.rfl

/-! ## Literals -/

/-- The f32 pattern of 59. -/
theorem lit_59 : Ideal.ofBits .f32 0x426C0000#32 = ((59 : ℝ) : EReal) := by
  simp [Ideal.ofBits, Ideal.ieee, -EReal.coe_mul]; norm_num

/-- The f32 pattern of 26. -/
theorem lit_26 : Ideal.ofBits .f32 0x41D00000#32 = ((26 : ℝ) : EReal) := by
  simp [Ideal.ofBits, Ideal.ieee, -EReal.coe_mul]; norm_num

/-- The f32 pattern of 60. -/
theorem lit_60 : Ideal.ofBits .f32 0x42700000#32 = ((60 : ℝ) : EReal) := by
  simp [Ideal.ofBits, Ideal.ieee, -EReal.coe_mul]; norm_num

/-- The f32 pattern of 27. -/
theorem lit_27 : Ideal.ofBits .f32 0x41D80000#32 = ((27 : ℝ) : EReal) := by
  simp [Ideal.ofBits, Ideal.ieee, -EReal.coe_mul]; norm_num

/-- The f32 pattern of 8. -/
theorem lit_8 : Ideal.ofBits .f32 0x41000000#32 = ((8 : ℝ) : EReal) := by
  simp [Ideal.ofBits, Ideal.ieee, -EReal.coe_mul]; norm_num

/-- The f32 pattern of 7. -/
theorem lit_7 : Ideal.ofBits .f32 0x40E00000#32 = ((7 : ℝ) : EReal) := by
  simp [Ideal.ofBits, Ideal.ieee, -EReal.coe_mul]; norm_num

/-- The f32 pattern of 200. -/
theorem lit_200 : Ideal.ofBits .f32 0x43480000#32 = ((200 : ℝ) : EReal) := by
  simp [Ideal.ofBits, Ideal.ieee, -EReal.coe_mul]; norm_num

/-- The f32 pattern of the step 200/134, rounded. -/
theorem lit_step : Ideal.ofBits .f32 0x3FBF0B76#32 = ((12520310 / 8388608 : ℝ) : EReal) := by
  simp [Ideal.ofBits, Ideal.ieee, -EReal.coe_mul]; norm_num

/-! ## Comparisons as floats -/

/-- The words of two naturals below 2³² are equal exactly when the naturals are. -/
theorem ofNat_inj {a b : Nat} (ha : a < 2 ^ 32) (hb : b < 2 ^ 32) : (BitVec.ofNat 32 a == BitVec.ofNat 32 b) = decide (a = b) := by
  rw [Bool.eq_iff_iff, beq_iff_eq, decide_eq_true_eq]
  refine ⟨fun h => ?_, fun h => by rw [h]⟩
  have := congrArg BitVec.toNat h
  simp only [BitVec.toNat_ofNat] at this
  omega

/-- A bit as an unsigned integer in a float is 1 or 0. -/
theorem uitofp_bool (p : Prop) [Decidable p] (φ : FTy) : FloatOps.uitofp (F := Ideal) φ (BitVec.ofBool (decide p)) = if p then (1 : EReal) else 0 := by
  show (((BitVec.ofBool (decide p)).toNat : ℝ) : EReal) = _
  by_cases h : p <;> simp [h]

/-- A bit widened to a word, as a signed integer in a float, is 1 or 0. -/
theorem sitofp_bool (p : Prop) [Decidable p] (φ : FTy) : FloatOps.sitofp (F := Ideal) φ ((BitVec.ofBool (decide p)).setWidth 32) = if p then (1 : EReal) else 0 := by
  show ((((BitVec.ofBool (decide p)).setWidth 32).toInt : ℝ) : EReal) = _
  by_cases h : p <;> simp [h]

/-- The comparison of two words, as a float. -/
theorem uitofp_eq_word {a b : Nat} (ha : a < 2 ^ 32) (hb : b < 2 ^ 32) (φ : FTy) :
    FloatOps.uitofp (F := Ideal) φ (IntOp.cmpi CmpIPredicate.eq (BitVec.ofNat 32 a) (BitVec.ofNat 32 b)) = if a = b then (1 : EReal) else 0 := by
  show FloatOps.uitofp (F := Ideal) φ (BitVec.ofBool (BitVec.ofNat 32 a == BitVec.ofNat 32 b)) = _
  rw [ofNat_inj ha hb, uitofp_bool]

/-- The comparison of two words widened to a word, as a float. -/
theorem sitofp_eq_word {a b : Nat} (ha : a < 2 ^ 32) (hb : b < 2 ^ 32) (φ : FTy) :
    FloatOps.sitofp (F := Ideal) φ ((IntOp.cmpi CmpIPredicate.eq (BitVec.ofNat 32 a) (BitVec.ofNat 32 b)).setWidth 32) = if a = b then (1 : EReal) else 0 := by
  show FloatOps.sitofp (F := Ideal) φ ((BitVec.ofBool (BitVec.ofNat 32 a == BitVec.ofNat 32 b)).setWidth 32) = _
  rw [ofNat_inj ha hb, sitofp_bool]

end Cert.Board

end
-- ==== Proof.Spec.lean ====
/- The board's entries in plain terms: what the kernel and the reference both compute. -/
module

public import proofs.«01_k».proof.Proof.Ids
public import proofs.«01_k».proof.Proof.Gen.KernelIdeal

@[expose] public section

noncomputable section

namespace Cert.Board

open Idealize.ShloMosaic Cert.KernelIdeal

/-- Entry `d` of a champion's row, from the champion's 30 numbers `x`: the champion's table row, three item rows, seven trait rows, and the last
19 of the 30 numbers. -/
def champRow (A4 : S60x30.Idx → EReal) (A5 : S60x10.Idx → EReal) (A6 : S27x8.Idx → EReal) (x : Fin 30 → EReal) (d : Fin 135) : EReal :=
  if h1 : d.val < 30 then A4 (ix2 (row 60 (x 0)) (⟨d.val, h1⟩ : Fin 30))
  else if h2 : d.val < 60 then A5 (ix2 (row 60 (x ⟨1 + (d.val - 30) / 10, by omega⟩)) (⟨(d.val - 30) % 10, by omega⟩ : Fin 10))
  else if h3 : d.val < 116 then A6 (ix2 (row 27 (x ⟨4 + (d.val - 60) / 8, by omega⟩)) (⟨(d.val - 60) % 8, by omega⟩ : Fin 8))
  else x ⟨d.val - 105, by omega⟩

/-- Entry `d` of a row read off the bench table by the id `x`. -/
def benchRow (A7 : S60x135.Idx → EReal) (x : EReal) (d : Fin 135) : EReal := A7 (ix2 (row 60 x) d)

/-- Entry `d` of a row read off the player table by the id `x`. -/
def playerRow (A8 : S8x135.Idx → EReal) (x : EReal) (d : Fin 135) : EReal := A8 (ix2 (row 8 x) d)

/-- Entry `d` of the two-layer network's row for the inputs `x`. -/
def mlpRow (w1 : S27x27.Idx → EReal) (b1 : Fin 27 → EReal) (w2 : S27x135.Idx → EReal) (b2 : Fin 135 → EReal) (x : Fin 27 → EReal) (d : Fin 135) : EReal :=
  (∑ j : Fin 27, max ((∑ i : Fin 27, x i * w1 (ix2 i j)) + b1 j) 0 * w2 (ix2 j d)) + b2 d

/-- How many grid steps the clipped scalar lies from 0. -/
def steps (s : EReal) : EReal := Ideal.div (min ((200 : ℝ) : EReal) (max 0 s)) ((12520310 / 8388608 : ℝ) : EReal)

/-- The grid point at or below the clipped scalar. -/
def below (s : EReal) : Nat := ⌊(steps s).toReal⌋.toNat

/-- The scalar's distance from the grid point below it, in grid steps. -/
def part (s : EReal) : EReal := steps s - ((below s : ℝ) : EReal)

/-- Entry `d` of a scalar's row: its weight is split between the grid points around it. -/
def scalarRow (s : EReal) (d : Fin 135) : EReal :=
  (if below s = d.val then 1 else 0) * (1 - part s) + (if below s + 1 = d.val then 1 else 0) * part s

/-- The ids of a batch entry name rows of their tables. -/
structure Sound (A0 : S4096x37x30.Idx → EReal) (A1 : S4096x10.Idx → EReal) (A3 : S4096x10.Idx → EReal) : Prop where
  champ : ∀ (b : Fin 4096) (c : Fin 37), Names 60 (A0 (ix3 b c (0 : Fin 30)))
  item : ∀ (b : Fin 4096) (c : Fin 37) (k : Fin 3), Names 60 (A0 (ix3 b c (⟨1 + k.val, by omega⟩ : Fin 30)))
  trait : ∀ (b : Fin 4096) (c : Fin 37) (k : Fin 7), Names 27 (A0 (ix3 b c (⟨4 + k.val, by omega⟩ : Fin 30)))
  bench : ∀ (b : Fin 4096) (k : Fin 10), Names 60 (A1 (ix2 b k))
  player : ∀ (b : Fin 4096) (k : Fin 4), Names 8 (A3 (ix2 b (if h : k.val < 3 then ⟨7 + k.val, by omega⟩ else 0 : Fin 10)))

/-- The board: 37 champions, 10 bench items, the network's row, 6 scalars and 4 players. -/
def board (A0 : S4096x37x30.Idx → EReal) (A1 : S4096x10.Idx → EReal) (A2 : S4096x27.Idx → EReal) (A3 : S4096x10.Idx → EReal) (A4 : S60x30.Idx → EReal)
    (A5 : S60x10.Idx → EReal) (A6 : S27x8.Idx → EReal) (A7 : S60x135.Idx → EReal) (A8 : S8x135.Idx → EReal) (w1 : S27x27.Idx → EReal) (b1 : S27.Idx → EReal)
    (w2 : S27x135.Idx → EReal) (b2 : S135.Idx → EReal) (b : Fin 4096) (s : Fin 58) (d : Fin 135) : EReal :=
  if h1 : s.val < 37 then champRow A4 A5 A6 (fun k => A0 (ix3 b (⟨s.val, h1⟩ : Fin 37) k)) d
  else if h2 : s.val < 47 then benchRow A7 (A1 (ix2 b (⟨s.val - 37, by omega⟩ : Fin 10))) d
  else if s.val < 48 then mlpRow w1 (fun j => b1 (ix1 j)) w2 (fun j => b2 (ix1 j)) (fun i => A2 (ix2 b i)) d
  else if h4 : s.val < 54 then scalarRow (A3 (ix2 b (⟨s.val - 47, by omega⟩ : Fin 10))) d
  else playerRow A8 (A3 (ix2 b (if h : s.val < 57 then ⟨s.val - 47, by omega⟩ else 0 : Fin 10))) d

end Cert.Board

end
-- ==== Proof.ScalarRow.lean ====
/- The scalar rows: word comparisons on the kernel's side, float comparisons on the reference's, one row. -/
module

public import proofs.«01_k».proof.Proof.Spec
public import Idealize.ShloMosaic.Lib.Pointwise
public import Idealize.ShloMosaic.Lib.StableHlo.Predicate

@[expose] public section

noncomputable section

namespace Cert.Board

open Idealize.ShloMosaic

/-- A clipped scalar lies at most 134 grid steps from 0. -/
theorem steps_names (s : EReal) : Names 135 (steps s) := by
  have h0 : (0 : EReal) ≤ min ((200 : ℝ) : EReal) (max 0 s) := le_min (by exact_mod_cast (by norm_num : (0 : ℝ) ≤ 200)) (le_max_left _ _)
  have h1 : min ((200 : ℝ) : EReal) (max 0 s) ≤ ((200 : ℝ) : EReal) := min_le_left _ _
  unfold steps
  generalize min ((200 : ℝ) : EReal) (max 0 s) = y at h0 h1
  induction y using EReal.rec with
  | bot => exact absurd h0 (by simp)
  | top => exact absurd h1 (by simp)
  | coe r =>
    have r0 : 0 ≤ r := by exact_mod_cast h0
    have r1 : r ≤ 200 := by exact_mod_cast h1
    have e : Ideal.div ((r : ℝ) : EReal) ((12520310 / 8388608 : ℝ) : EReal) = ((r / (12520310 / 8388608) : ℝ) : EReal) := by
      rw [Ideal.div_coe (by norm_num), ← EReal.coe_mul, mul_one_div]
    rw [e]
    constructor
    · exact_mod_cast (by positivity : (0 : ℝ) ≤ r / (12520310 / 8388608))
    · have : r / (12520310 / 8388608 : ℝ) < ((135 : ℕ) : ℝ) := by
        rw [div_lt_iff₀ (by norm_num)]
        push_cast
        linarith
      exact_mod_cast this

/-- A small whole number becomes its word. -/
theorem fptosi_word {k : Nat} (h : k < 2 ^ 31) (φ : FTy) : FloatOps.fptosi (F := Ideal) (φ := φ) 32 ((k : ℝ) : EReal) = BitVec.ofNat 32 k := by
  show BitVec.ofInt 32 (Ideal.toIntClamped (-(2 ^ (32 - 1))) (2 ^ (32 - 1) - 1) ((k : ℝ) : EReal)) = _
  rw [fptosi_nat h, BitVec.ofInt_natCast]

/-- The number of grid steps, rounded down. -/
theorem steps_floor (s : EReal) : Ideal.liftRound Int.floor (steps s) = ((below s : ℝ) : EReal) := (steps_names s).floor

/-- There are fewer than 135 grid points at or below a clipped scalar. -/
theorem below_lt (s : EReal) : below s < 135 := (steps_names s).lt

/-- The kernel's scalar row, whose weights come from comparing words. -/
theorem scalar_words (s : EReal) (d : Fin 135) :
    FloatOps.sitofp (F := Ideal) FTy.f32 (BitVec.setWidth 32 (IntOp.cmpi CmpIPredicate.eq (BitVec.ofNat 32 d.val)
          (FloatOps.fptosi (F := Ideal) (φ := FTy.f32) 32 (Ideal.liftRound Int.floor (steps s)))))
        * (1 - (steps s - Ideal.liftRound Int.floor (steps s)))
      + FloatOps.sitofp (F := Ideal) FTy.f32 (BitVec.setWidth 32 (IntOp.cmpi CmpIPredicate.eq (BitVec.ofNat 32 d.val)
          (IntOp.addi (FloatOps.fptosi (F := Ideal) (φ := FTy.f32) 32 (Ideal.liftRound Int.floor (steps s))) 1#32)))
        * (steps s - Ideal.liftRound Int.floor (steps s))
      = scalarRow s d := by
  have hb := below_lt s
  have hd := d.isLt
  have a : IntOp.addi (BitVec.ofNat 32 (below s)) 1#32 = BitVec.ofNat 32 (below s + 1) := (BitVec.ofNat_add (below s) 1).symm
  rw [steps_floor, fptosi_word (by omega), a, sitofp_eq_word (by omega) (by omega), sitofp_eq_word (by omega) (by omega)]
  unfold scalarRow part
  simp only [@eq_comm _ d.val]

/-- The reference's scalar row, whose weights come from comparing floats. -/
theorem scalar_floats (s : EReal) (d : Fin 135) :
    FloatOps.uitofp (F := Ideal) FTy.f32 (Ideal.cmp .oeq (Ideal.liftRound Int.floor (steps s)) (FloatOps.sitofp (F := Ideal) FTy.f32 (BitVec.ofNat 32 d.val)))
        * (1 - (steps s - Ideal.liftRound Int.floor (steps s)))
      + FloatOps.uitofp (F := Ideal) FTy.f32 (Ideal.cmp .oeq (Ideal.liftRound Int.floor (steps s) + 1) (FloatOps.sitofp (F := Ideal) FTy.f32 (BitVec.ofNat 32 d.val)))
        * (steps s - Ideal.liftRound Int.floor (steps s))
      = scalarRow s d := by
  have hd := d.isLt
  have e : FloatOps.sitofp (F := Ideal) FTy.f32 (BitVec.ofNat 32 d.val) = ((d.val : ℝ) : EReal) := by
    show (((BitVec.ofNat 32 d.val).toInt : ℝ) : EReal) = _
    rw [StableHlo.Predicate.toInt_ofNat_small _ (by omega)]
    norm_cast
  have c : ∀ k : Nat, FloatOps.uitofp (F := Ideal) FTy.f32 (Ideal.cmp .oeq ((k : ℝ) : EReal) ((d.val : ℝ) : EReal)) = if k = d.val then (1 : EReal) else 0 := by
    intro k
    refine (uitofp_bool _ _).trans ?_
    exact if_congr coe_nat_inj rfl rfl
  have p : ((below s : ℝ) : EReal) + 1 = (((below s + 1 : Nat) : ℝ) : EReal) := by norm_cast
  rw [e, steps_floor, p, c, c]
  rfl

end Cert.Board

end
-- ==== Proof.Ref.lean ====
/- The reference's result, entry by entry: the board. -/
module

public import proofs.«01_k».proof.Proof.Take
public import proofs.«01_k».proof.Proof.ScalarRow
public import proofs.«01_k».proof.Proof.Gen.ReferenceIdeal.Run

@[expose] public section

set_option maxRecDepth 16384

noncomputable section

namespace Cert.Board

open Idealize.ShloMosaic Idealize.ShloMosaic.TcCoe Cert.ReferenceIdeal Cert.ReferenceIdeal.Gen Cert.ReferenceIdeal.Value

variable (V0 : Valuation τ sig (Elt Ideal))

/-- A float that names a row becomes the row's word. -/
theorem Names.word {n : Nat} {x : EReal} [NeZero n] (h : Names n x) (hn : n ≤ 2 ^ 31) : FloatOps.fptosi (F := Ideal) (φ := FTy.f32) 32 x = BitVec.ofNat 32 (row n x).val := by
  show BitVec.ofInt 32 (Ideal.toIntClamped (-(2 ^ (32 - 1))) (2 ^ (32 - 1) - 1) x) = _
  rw [h.toInt hn, BitVec.ofInt_natCast, h.row_val]

/-- The row number that a float names is not wrapped. -/
theorem Names.taken {n : Nat} {x : EReal} [NeZero n] (h : Names n x) (hn : n ≤ 2 ^ 31) (v : BitVec 32) :
    Scalar.select (IntOp.cmpi .slt (FloatOps.fptosi (F := Ideal) (φ := FTy.f32) 32 x) 0#32) v (FloatOps.fptosi (F := Ideal) (φ := FTy.f32) 32 x)
      = BitVec.ofNat 32 (row n x).val := by
  rw [h.word hn]
  exact unwrapped (by have := (row n x).isLt; omega) v

/-- The arguments' contents. -/
abbrev R0 : S4096x37x30.Idx → EReal := V0 (Proc.devRef .tc main_arg0)
abbrev R1 : S4096x10.Idx → EReal := V0 (Proc.devRef .tc main_arg1)
abbrev R2 : S4096x27.Idx → EReal := V0 (Proc.devRef .tc main_arg2)
abbrev R3 : S4096x10.Idx → EReal := V0 (Proc.devRef .tc main_arg3)
abbrev R4 : S60x30.Idx → EReal := V0 (Proc.devRef .tc main_arg4)
abbrev R5 : S60x10.Idx → EReal := V0 (Proc.devRef .tc main_arg5)
abbrev R6 : S27x8.Idx → EReal := V0 (Proc.devRef .tc main_arg6)
abbrev R7 : S60x135.Idx → EReal := V0 (Proc.devRef .tc main_arg7)
abbrev R8 : S8x135.Idx → EReal := V0 (Proc.devRef .tc main_arg8)
abbrev R9 : S27x27.Idx → EReal := V0 (Proc.devRef .tc main_arg9)
abbrev R10 : S27.Idx → EReal := V0 (Proc.devRef .tc main_arg10)
abbrev R11 : S27x135.Idx → EReal := V0 (Proc.devRef .tc main_arg11)
abbrev R12 : S135.Idx → EReal := V0 (Proc.devRef .tc main_arg12)

/-- Three rows of ten side by side. -/
theorem items_at (f : S4096x37x3x10.Idx → EReal) (b : Fin 4096) (c : Fin 37) (e : Fin 30) :
    shapeCast S4096x37x30 f shapeCasts_S4096x37x3x10_S4096x37x30 (ix3 b c e) = f (ix4 b c (⟨e.val / 10, by omega⟩ : Fin 3) (⟨e.val % 10, by omega⟩ : Fin 10)) := by
  pointwise

/-- Seven rows of eight side by side. -/
theorem traits_at (f : S4096x37x7x8.Idx → EReal) (b : Fin 4096) (c : Fin 37) (e : Fin 56) :
    shapeCast S4096x37x56 f shapeCasts_S4096x37x7x8_S4096x37x56 (ix3 b c e) = f (ix4 b c (⟨e.val / 8, by omega⟩ : Fin 7) (⟨e.val % 8, by omega⟩ : Fin 8)) := by
  pointwise

/-- The board's five slabs, one after another. -/
theorem slabs_at (f0 : S4096x37x135.Idx → EReal) (f1 : S4096x10x135.Idx → EReal) (f2 : S4096x1x135.Idx → EReal) (f3 : S4096x6x135.Idx → EReal)
    (f4 : S4096x4x135.Idx → EReal) (b : Fin 4096) (s : Fin 58) (d : Fin 135) :
    concatenate S4096x58x135 1 [⟨S4096x37x135, f0⟩, ⟨S4096x10x135, f1⟩, ⟨S4096x1x135, f2⟩, ⟨S4096x6x135, f3⟩, ⟨S4096x4x135, f4⟩]
        concatenates_S4096x37x135_S4096x10x135_S4096x1x135_S4096x6x135_S4096x4x135_S4096x58x135_d1 (ix3 b s d)
      = if h1 : s.val < 37 then f0 (ix3 b (⟨s.val, h1⟩ : Fin 37) d)
        else if h2 : s.val - 37 < 10 then f1 (ix3 b (⟨s.val - 37, h2⟩ : Fin 10) d)
        else if h3 : s.val - 37 - 10 < 1 then f2 (ix3 b (⟨s.val - 37 - 10, h3⟩ : Fin 1) d)
        else if h4 : s.val - 37 - 10 - 1 < 6 then f3 (ix3 b (⟨s.val - 37 - 10 - 1, h4⟩ : Fin 6) d)
        else f4 (ix3 b (⟨s.val - 37 - 10 - 1 - 6, by omega⟩ : Fin 4) d) := by
  pointwise

/-- A champion's row from its four parts. -/
theorem parts_at (f0 f1 : S4096x37x30.Idx → EReal) (f2 : S4096x37x56.Idx → EReal) (f3 : S4096x37x19.Idx → EReal) (b : Fin 4096) (c : Fin 37) (d : Fin 135) :
    concatenate S4096x37x135 2 [⟨S4096x37x30, f0⟩, ⟨S4096x37x30, f1⟩, ⟨S4096x37x56, f2⟩, ⟨S4096x37x19, f3⟩]
        concatenates_S4096x37x30_S4096x37x30_S4096x37x56_S4096x37x19_S4096x37x135_d2 (ix3 b c d)
      = if h1 : d.val < 30 then f0 (ix3 b c (⟨d.val, h1⟩ : Fin 30))
        else if h2 : d.val - 30 < 30 then f1 (ix3 b c (⟨d.val - 30, h2⟩ : Fin 30))
        else if h3 : d.val - 30 - 30 < 56 then f2 (ix3 b c (⟨d.val - 30 - 30, h3⟩ : Fin 56))
        else f3 (ix3 b c (⟨d.val - 30 - 30 - 56, by omega⟩ : Fin 19)) := by
  pointwise

/-- The last 19 of a champion's 30 numbers. -/
theorem tail_at (f : S4096x37x30.Idx → EReal) (h : S4096x37x30.Slices ![0, 0, 11] S4096x37x19) (b : Fin 4096) (c : Fin 37) (e : Fin 19) :
    extractStridedSlice S4096x37x19 ![0, 0, 11] f h (ix3 b c e) = f (ix3 b c (⟨11 + e.val, by omega⟩ : Fin 30)) := by
  pointwise

variable {V0} (H : Sound (R0 V0) (R1 V0) (R3 V0))
include H

/-- The champions' row numbers. -/
theorem call0_at (b : Fin 4096) (c : Fin 37) :
    res_main_call0_v5 (F := Ideal) V0 (ix3 b c (0 : Fin 1)) = BitVec.ofNat 32 (row 60 (R0 V0 (ix3 b c (0 : Fin 30)))).val := by
  unfold res_main_call0_v5 res_main_v4 res_main_v1
  pointwise
  exact (H.champ b c).taken (by decide) _

/-- The items' row numbers. -/
theorem call1_at (b : Fin 4096) (c : Fin 37) (k : Fin 3) :
    res_main_call1_v5 (F := Ideal) V0 (ix4 b c k (0 : Fin 1)) = BitVec.ofNat 32 (row 60 (R0 V0 (ix3 b c (⟨1 + k.val, by omega⟩ : Fin 30)))).val := by
  unfold res_main_call1_v5 res_main_v5 res_main_v1
  pointwise
  exact (H.item b c k).taken (by decide) _

/-- The traits' row numbers. -/
theorem call2_at (b : Fin 4096) (c : Fin 37) (k : Fin 7) :
    res_main_call2_v5 (F := Ideal) V0 (ix4 b c k (0 : Fin 1)) = BitVec.ofNat 32 (row 27 (R0 V0 (ix3 b c (⟨4 + k.val, by omega⟩ : Fin 30)))).val := by
  unfold res_main_call2_v5 res_main_v6 res_main_v1
  pointwise
  exact (H.trait b c k).taken (by decide) _

/-- The bench items' row numbers. -/
theorem call3_at (b : Fin 4096) (k : Fin 10) :
    res_main_call3_v5 (F := Ideal) V0 (ix3 b k (0 : Fin 1)) = BitVec.ofNat 32 (row 60 (R1 V0 (ix2 b k))).val := by
  unfold res_main_call3_v5 res_main_v13
  pointwise
  exact (H.bench b k).taken (by decide) _

/-- The players' row numbers. -/
theorem call5_at (b : Fin 4096) (k : Fin 4) :
    res_main_call5_v5 (F := Ideal) V0 (ix3 b k (0 : Fin 1)) = BitVec.ofNat 32 (row 8 (R3 V0 (ix2 b (if h : k.val < 3 then ⟨7 + k.val, by omega⟩ else 0 : Fin 10)))).val := by
  have e : (if h : k.val < 3 then R3 V0 (ix2 b (⟨7 + k.val, by omega⟩ : Fin 10)) else R3 V0 (ix2 b (⟨k.val - 3, by omega⟩ : Fin 10)))
      = R3 V0 (ix2 b (if h : k.val < 3 then ⟨7 + k.val, by omega⟩ else 0 : Fin 10)) := by
    by_cases h : k.val < 3
    · rw [dif_pos h, dif_pos h]
    · rw [dif_neg h, dif_neg h]
      exact congrArg (R3 V0) (congrArg₂ (fun u v => ix2 u v) rfl (Fin.ext (by show k.val - 3 = 0; omega)))
  unfold res_main_call5_v5 res_main_v29
  pointwise
  rw [e]
  exact (H.player b k).taken (by decide) _

/-- The reference's entries are the board's. -/
theorem ref_at (b : Fin 4096) (s : Fin 58) (d : Fin 135) :
    res_main_v61 (F := Ideal) V0 (ix3 b s d)
      = board (R0 V0) (R1 V0) (R2 V0) (R3 V0) (R4 V0) (R5 V0) (R6 V0) (R7 V0) (R8 V0) (R9 V0) (R10 V0) (R11 V0) (R12 V0) b s d := by
  have hs := s.isLt
  have hd := d.isLt
  unfold res_main_v61 board
  refine (slabs_at _ _ _ _ _ b s d).trans ?_
  by_cases h1 : s.val < 37
  · rw [dif_pos h1, dif_pos h1]
    generalize (⟨s.val, h1⟩ : Fin 37) = c
    refine (parts_at _ _ _ _ b c d).trans ?_
    unfold champRow
    by_cases g1 : d.val < 30
    · rw [dif_pos g1, dif_pos g1]
      exact take_rows (N := 60) (B := 4096) (K := 37) (w := 30) _ (R4 V0) _ _ _ _ (fun b c => row 60 (R0 V0 (ix3 b c (0 : Fin 30)))) (by decide) (call0_at H)
        (fun _ => rfl) (fun _ => rfl) _ (fun _ => rfl) _ _ _ b c _
    · rw [dif_neg g1, dif_neg g1]
      by_cases g2 : d.val < 60
      · rw [dif_pos g2, dif_pos (show d.val - 30 < 30 by omega)]
        refine (items_at _ b c _).trans ?_
        exact take_cube (N := 60) (B := 4096) (C := 37) (K := 3) (w := 10) _ (R5 V0) _ _ _ _
          (fun b c k => row 60 (R0 V0 (ix3 b c (⟨1 + k.val, by omega⟩ : Fin 30)))) (by decide) (call1_at H)
          (fun _ => rfl) (fun _ => rfl) _ (fun _ => rfl) _ _ _ b c _ _
      · rw [dif_neg g2, dif_neg (show ¬ d.val - 30 < 30 by omega)]
        by_cases g3 : d.val < 116
        · rw [dif_pos g3, dif_pos (show d.val - 30 - 30 < 56 by omega)]
          refine (traits_at _ b c _).trans ?_
          refine (take_cube (N := 27) (B := 4096) (C := 37) (K := 7) (w := 8) _ (R6 V0) _ _ _ _
            (fun b c k => row 27 (R0 V0 (ix3 b c (⟨4 + k.val, by omega⟩ : Fin 30)))) (by decide) (call2_at H)
            (fun _ => rfl) (fun _ => rfl) _ (fun _ => rfl) _ _ _ b c _ _).trans ?_
          rfl
        · rw [dif_neg g3, dif_neg (show ¬ d.val - 30 - 30 < 56 by omega)]
          refine (tail_at _ _ b c _).trans ?_
          exact congrArg (R0 V0) (congrArg (ix3 b c) (Fin.ext (by dsimp only; omega)))
  · rw [dif_neg h1, dif_neg h1]
    by_cases h2 : s.val < 47
    · rw [dif_pos h2, dif_pos (show s.val - 37 < 10 by omega)]
      exact take_rows (N := 60) (B := 4096) (K := 10) (w := 135) _ (R7 V0) _ _ _ _ (fun b k => row 60 (R1 V0 (ix2 b k))) (by decide) (call3_at H)
        (fun _ => rfl) (fun _ => rfl) _ (fun _ => rfl) _ _ _ b _ d
    · rw [dif_neg h2, dif_neg (show ¬ s.val - 37 < 10 by omega)]
      by_cases h3 : s.val < 48
      · rw [if_pos h3, dif_pos (show s.val - 37 - 10 < 1 by omega)]
        generalize (⟨s.val - 37 - 10, _⟩ : Fin 1) = z
        pointwise
        rfl
      · rw [if_neg h3, dif_neg (show ¬ s.val - 37 - 10 < 1 by omega)]
        by_cases h4 : s.val < 54
        · rw [dif_pos h4, dif_pos (show s.val - 37 - 10 - 1 < 6 by omega)]
          obtain ⟨k, hk⟩ : ∃ k : Fin 6, k = ⟨s.val - 37 - 10 - 1, by omega⟩ := ⟨_, rfl⟩
          have e : (⟨s.val - 47, by omega⟩ : Fin 10) = ⟨1 + k.val, by omega⟩ := Fin.ext (by have := congrArg Fin.val hk; dsimp only at this ⊢; omega)
          rw [e, ← hk]
          unfold res_main_v41 res_main_v37 res_main_v36 res_main_v35 res_main_v40
          have e0 : id (constant (F := Ideal) S_ FTy.f32 0#32) ix0 = (0 : EReal) := Ideal.ofBits_zero_f32
          have e1 : id (constant (F := Ideal) S_ FTy.f32 1128792064#32) ix0 = ((200 : ℝ) : EReal) := lit_200
          pointwise
          rw [e0, e1, lit_step]
          exact scalar_floats _ _
        · rw [dif_neg h4, dif_neg (show ¬ s.val - 37 - 10 - 1 < 6 by omega)]
          refine (take_rows (N := 8) (B := 4096) (K := 4) (w := 135) _ (R8 V0) _ _ _ _
            (fun b k => row 8 (R3 V0 (ix2 b (if h : k.val < 3 then ⟨7 + k.val, by omega⟩ else 0 : Fin 10))))
            (by decide) (call5_at H) (fun _ => rfl) (fun _ => rfl) _ (fun _ => rfl) _ _ _ b _ d).trans ?_
          unfold playerRow
          refine congrArg (fun k : Fin 10 => R8 V0 (ix2 (row 8 (R3 V0 (ix2 b k))) d)) ?_
          dsimp only
          by_cases h5 : s.val < 57
          · rw [dif_pos h5, dif_pos (show s.val - 37 - 10 - 1 - 6 < 3 by omega)]
            exact Fin.ext (by dsimp only; omega)
          · rw [dif_neg h5, dif_neg (show ¬ s.val - 37 - 10 - 1 - 6 < 3 by omega)]

end Cert.Board

end
-- ==== Proof.Player.lean ====
/- The kernel's player rows: register gathers, eight rows at a time, that read rows of the player table. -/
module

public import proofs.«01_k».proof.Proof.ScalarRow
public import proofs.«01_k».proof.Proof.Gen.KernelIdeal.Value
public import Idealize.ShloMosaic.Lib.Pipeline.ValueKit

@[expose] public section

set_option maxRecDepth 16384

noncomputable section

namespace Cert.Board

open Idealize.ShloMosaic Idealize.ShloMosaic.TcCoe Cert.KernelIdeal Cert.KernelIdeal.Gen

/-- The scalar that holds the id of player `k`. -/
def playerCol (k : Fin 4) : Fin 10 := if h : k.val < 3 then ⟨7 + k.val, by omega⟩ else 0

/-- Row `128 * k + b` of the player ids. -/
theorem pay77_at (x : S128x10.Idx → EReal) (r : Fin 512) (d : Fin 135) (b : Fin 128) (k : Fin 4) (hr : r.val = 128 * k.val + b.val)
    (hx : Names 8 (x (ix2 b (playerCol k)))) :
    k0_pay77 (F := Ideal) x (ix2 r d) = BitVec.ofNat 32 (idOf (x (ix2 b (playerCol k)))) := by
  have hb := b.isLt
  have hl := hx.lt
  have e : (if h : r.val < 128 then x (ix2 (⟨r.val, by omega⟩ : Fin 128) (7 : Fin 10)) else if h : r.val - 128 < 128 then x (ix2 (⟨r.val - 128, by omega⟩ : Fin 128) (8 : Fin 10))
      else if h : r.val - 128 - 128 < 128 then x (ix2 (⟨r.val - 128 - 128, by omega⟩ : Fin 128) (9 : Fin 10))
      else x (ix2 (⟨r.val - 128 - 128 - 128, by omega⟩ : Fin 128) (0 : Fin 10))) = x (ix2 b (playerCol k)) := by
    fin_cases k
    · rw [dif_pos (by dsimp only at hr; omega)]
      exact congrArg x (congrArg₂ ix2 (Fin.ext (by dsimp only at hr ⊢; omega)) rfl)
    · rw [dif_neg (by dsimp only at hr; omega), dif_pos (by dsimp only at hr; omega)]
      exact congrArg x (congrArg₂ ix2 (Fin.ext (by dsimp only at hr ⊢; omega)) rfl)
    · rw [dif_neg (by dsimp only at hr; omega), dif_neg (by dsimp only at hr; omega), dif_pos (by dsimp only at hr; omega)]
      exact congrArg x (congrArg₂ ix2 (Fin.ext (by dsimp only at hr ⊢; omega)) rfl)
    · rw [dif_neg (by dsimp only at hr; omega), dif_neg (by dsimp only at hr; omega), dif_neg (by dsimp only at hr; omega)]
      exact congrArg x (congrArg₂ ix2 (Fin.ext (by dsimp only at hr ⊢; omega)) rfl)
  have l : Ideal.ofBits FTy.f32 1088421888#32 = (((7 : Nat) : ℝ) : EReal) := lit_7.trans (by norm_num)
  have s : k0_pay77 (F := Ideal) x (ix2 r d) = FloatOps.fptosi (F := Ideal) (φ := FTy.f32) 32 (min (Ideal.ofBits FTy.f32 1088421888#32) (max 0 (Ideal.liftRound Int.floor
      (if h : r.val < 128 then x (ix2 (⟨r.val, by omega⟩ : Fin 128) (7 : Fin 10)) else if h : r.val - 128 < 128 then x (ix2 (⟨r.val - 128, by omega⟩ : Fin 128) (8 : Fin 10))
      else if h : r.val - 128 - 128 < 128 then x (ix2 (⟨r.val - 128 - 128, by omega⟩ : Fin 128) (9 : Fin 10))
      else x (ix2 (⟨r.val - 128 - 128 - 128, by omega⟩ : Fin 128) (0 : Fin 10)))))) := by
    unfold k0_pay77
    pointwise
  rw [s, e, hx.floor, l, clip_nat (by omega), fptosi_word (by omega)]

/-- Eight rows at `8 * g` of the 512. -/
theorem eight (g : Fin 64) : S512x135.Slices ![8 * g.val, 0] S8x135 :=
  ⟨rfl, fun a => by
    have := g.isLt
    match a with
    | ⟨0, _⟩ => exact (by omega : 8 * g.val + 8 ≤ 512)
    | ⟨1, _⟩ => exact (by decide : 0 + 135 ≤ 135)⟩

/-- One register gather: the eight rows at `8 * g`. -/
def gather8 (idx : S512x135.Idx → BitVec 32) (T : S8x135.Idx → EReal) (g : Fin 64) : S8x135.Idx → EReal :=
  k0_pay159 (F := Ideal) T (extractStridedSlice S8x135 ![8 * g.val, 0] idx (eight g))

/-- A register gather reads the table's row that the index names, where it is one of the eight. -/
theorem gather8_at (idx : S512x135.Idx → BitVec 32) (T : S8x135.Idx → EReal) (g : Fin 64) (i : Fin 8) (d : Fin 135) (r : Fin 512) (hr : r.val = 8 * g.val + i.val)
    (n : Fin 8) (hn : idx (ix2 r d) = BitVec.ofNat 32 n.val) : gather8 idx T g (ix2 i d) = T (ix2 n d) := by
  have hx : extractStridedSlice S8x135 ![8 * g.val, 0] idx (eight g) (ix2 i d) = BitVec.ofNat 32 n.val := by
    rw [← hn]
    refine extractStridedSlice_apply _ idx _ _ _ fun a => ?_
    match a with
    | ⟨0, _⟩ => exact hr
    | ⟨1, _⟩ => exact (Nat.zero_add _).symm
  unfold gather8 k0_pay159
  generalize extractStridedSlice S8x135 ![8 * g.val, 0] idx (eight g) = w at hx
  have hw : shapeCast S8x135 (shapeCast S8x135x1 (select (cmpi CmpIPredicate.slt w (broadcast S8x135 0#32)) (addi w (broadcast S8x135 8#32)) w) shapeCasts_S8x135_S8x135x1)
      shapeCasts_S8x135x1_S8x135 (ix2 i d) = BitVec.ofNat 32 n.val := by
    pointwise
    rw [hx]
    fin_cases n <;> rfl
  have hnlt := n.isLt
  refine congrArg T (funext fun a => ?_)
  match a with
  | ⟨0, _⟩ =>
    refine (if_pos rfl).trans (Fin.ext ?_)
    show (shapeCast S8x135 (shapeCast S8x135x1 (select (cmpi CmpIPredicate.slt w (broadcast S8x135 0#32)) (addi w (broadcast S8x135 8#32)) w) shapeCasts_S8x135_S8x135x1)
      shapeCasts_S8x135x1_S8x135 (ix2 i d)).toNat % 8 = n.val
    rw [hw, BitVec.toNat_ofNat]
    omega
  | ⟨1, _⟩ => exact if_neg fun h => Nat.one_ne_zero (congrArg Fin.val h)

end Cert.Board

end
-- ==== Proof.PlayerRows.lean ====
/- The 512 player rows: the 64 register gathers, one above the other. -/
module

public import proofs.«01_k».proof.Proof.Player

@[expose] public section

set_option maxRecDepth 16384

noncomputable section

namespace Cert.Board

open Idealize.ShloMosaic Idealize.ShloMosaic.TcCoe Cert.KernelIdeal Cert.KernelIdeal.Gen

/-- The kernel's 64 pieces are the register gathers in order. -/
theorem players_list (x0 : Vec Ideal S37x128x30 .f32) (x1 : Vec Ideal S128x10 .f32) (x2 : Vec Ideal S128x27 .f32) (x3 : Vec Ideal S128x10 .f32)
    (x4 : Vec Ideal S448x135 .f32) (x5 : Vec Ideal S11x429 .f32) (x6 : Vec Ideal S1x429 .f32) (x7 : Vec Ideal S1x11 .f32) (x8 : Vec Ideal S60x135 .bf16)
    (x9 : Vec Ideal S8x135 .f32) (x10 : Vec Ideal S27x27 .f32) (x11 : Vec Ideal S1x27 .f32) (x12 : Vec Ideal S27x135 .f32) (x13 : Vec Ideal S1x135 .f32) :
    ∃ h, k0_pay169 (F := Ideal) x0 x1 x2 x3 x4 x5 x6 x7 x8 x9 x10 x11 x12 x13
      = concatenate S512x135 0 (List.ofFn fun g : Fin 64 => ⟨S8x135, gather8 (k0_pay77 (F := Ideal) (View.ld x3 r0_42)) (View.ld x9 r0_66) g⟩) h :=
  ⟨_, rfl⟩

/-- Row `128 * k + b` of the player rows is the player table's row that the id names. -/
theorem players_at (x : S128x10.Idx → EReal) (T : S8x135.Idx → EReal) (h : Shape.Concatenates ((List.ofFn fun g : Fin 64 =>
      (⟨S8x135, gather8 (k0_pay77 (F := Ideal) x) T g⟩ : (s : Shape) × (s.Idx → EReal))).map (·.1)) S512x135 0) (r : Fin 512) (d : Fin 135) (b : Fin 128) (k : Fin 4)
    (hr : r.val = 128 * k.val + b.val) (hx : Names 8 (x (ix2 b (playerCol k)))) :
    concatenate S512x135 0 (List.ofFn fun g : Fin 64 => (⟨S8x135, gather8 (k0_pay77 (F := Ideal) x) T g⟩ : (s : Shape) × (s.Idx → EReal))) h (ix2 r d)
      = playerRow T (x (ix2 b (playerCol k))) d := by
  have hrl := r.isLt
  refine (concatenate_ofFn_apply 0 _ h rfl 8 rfl (ix2 r d) (⟨r.val / 8, by omega⟩ : Fin 64) rfl (ix2 (⟨r.val % 8, by omega⟩ : Fin 8) d) rfl ?_).trans ?_
  · intro a ha
    match a with
    | ⟨0, _⟩ => exact absurd rfl ha
    | ⟨1, _⟩ => rfl
  · refine gather8_at _ T _ _ d r (by show r.val = 8 * (r.val / 8) + r.val % 8; omega) (row 8 (x (ix2 b (playerCol k)))) ?_
    rw [pay77_at x r d b k hr hx, hx.row_val]

end Cert.Board

end
-- ==== Proof.Bench.lean ====
/- The kernel's bench rows: a one-hot product that reads one row of the bench table. -/
module

public import proofs.«01_k».proof.Proof.ScalarRow
public import proofs.«01_k».proof.Proof.Gen.KernelIdeal.Value
public import Idealize.ShloMosaic.Lib.Pipeline.ValueKit

@[expose] public section

set_option maxRecDepth 16384

noncomputable section

namespace Cert.Board

open Idealize.ShloMosaic Idealize.ShloMosaic.TcCoe Cert.KernelIdeal Cert.KernelIdeal.Gen

/-- A block of ten columns has a column `n`. -/
theorem column (n : Fin 10) : S128x10.Slices ![0, n.val] S128x1 :=
  ⟨rfl, fun a => by
    have := n.isLt
    match a with
    | ⟨0, _⟩ => exact (by decide : 0 + 128 ≤ 128)
    | ⟨1, _⟩ => exact (by omega : n.val + 1 ≤ 10)⟩

/-- Ten columns one under the other. -/
theorem columns_at (x : S128x10.Idx → EReal) (h : Shape.Concatenates ((List.ofFn fun n : Fin 10 =>
      (⟨S128x1, extractStridedSlice S128x1 ![0, n.val] x (column n)⟩ : (s : Shape) × (s.Idx → EReal))).map (·.1)) S1280x1 0) (r : Fin 1280) (b : Fin 128) (k : Fin 10)
    (hr : r.val = 128 * k.val + b.val) :
    concatenate S1280x1 0 (List.ofFn fun n : Fin 10 => (⟨S128x1, extractStridedSlice S128x1 ![0, n.val] x (column n)⟩ : (s : Shape) × (s.Idx → EReal))) h
      (ix2 r (0 : Fin 1)) = x (ix2 b k) := by
  have := b.isLt
  refine (concatenate_ofFn_apply 0 _ h rfl 128 rfl (ix2 r (0 : Fin 1)) k (by show r.val / 128 = k.val; omega) (ix2 b (0 : Fin 1))
    (by show b.val = r.val % 128; omega) ?_).trans ?_
  · intro a ha
    match a with
    | ⟨0, _⟩ => exact absurd rfl ha
    | ⟨1, _⟩ => rfl
  · refine extractStridedSlice_apply _ x _ _ _ fun a => ?_
    match a with
    | ⟨0, _⟩ => exact (Nat.zero_add _).symm
    | ⟨1, _⟩ => rfl

/-- Row `128 * k + b` of the bench ids, rounded down and not below 0. -/
theorem pay42_at (x : S128x10.Idx → EReal) (r : Fin 1280) (b : Fin 128) (k : Fin 10) (hr : r.val = 128 * k.val + b.val) :
    k0_pay42 (F := Ideal) x (ix2 r (0 : Fin 1)) = max 0 (Ideal.liftRound Int.floor (x (ix2 b k))) := by
  rw [← columns_at x concatenates_S128x1_S128x1_S128x1_S128x1_S128x1_S128x1_S128x1_S128x1_S128x1_S128x1_S1280x1_d0 r b k hr]
  show max (Ideal.ofBits .f32 0x00000000#32) _ = _
  rw [Ideal.ofBits_zero_f32]
  rfl

/-- Row `128 * k + b` of the bench product is the bench table's row that the id names. -/
theorem bench_at (x : S128x10.Idx → EReal) (A7 : S60x135.Idx → EReal) (r : Fin 1280) (d : Fin 135) (b : Fin 128) (k : Fin 10) (hr : r.val = 128 * k.val + b.val)
    (hx : Names 60 (x (ix2 b k))) :
    k0_pay43 (F := Ideal) (Scalar.ofBits (F := Ideal) .f32 0x426C0000#32) (k0_pay42 (F := Ideal) x) A7 (ix2 r d) = benchRow A7 (x (ix2 b k)) d := by
  have hl := hx.lt
  have e : min (Scalar.ofBits (F := Ideal) .f32 0x426C0000#32) (k0_pay42 (F := Ideal) x (ix2 r (0 : Fin 1))) = ((idOf (x (ix2 b k)) : ℝ) : EReal) := by
    have l : Scalar.ofBits (F := Ideal) .f32 0x426C0000#32 = (((59 : Nat) : ℝ) : EReal) := lit_59.trans (by norm_num)
    rw [pay42_at x r b k hr, hx.floor, l]
    exact clip_nat (by omega)
  generalize k0_pay42 (F := Ideal) x = y at e
  generalize Scalar.ofBits (F := Ideal) .f32 0x426C0000#32 = z at e
  have s : k0_pay43 (F := Ideal) z y A7 (ix2 r d) = ∑ n : Fin 60, FloatOps.sitofp (F := Ideal) FTy.f32 (BitVec.setWidth 32 (IntOp.cmpi CmpIPredicate.eq
      (BitVec.ofNat 32 n.val) (FloatOps.fptosi (F := Ideal) (φ := FTy.f32) 32 (min z (y (ix2 r (0 : Fin 1))))))) * A7 (ix2 n d) := by
    unfold k0_pay43
    pointwise
  rw [s, e, fptosi_word (by omega)]
  unfold benchRow
  rw [Finset.sum_eq_single (row 60 (x (ix2 b k)))]
  · rw [sitofp_eq_word (by omega) (by omega), if_pos hx.row_val, one_mul]
  · intro n _ hn
    rw [sitofp_eq_word (by omega) (by omega), if_neg fun h => hn (Fin.ext (h.trans hx.row_val.symm)), zero_mul]
  · exact fun h => absurd (Finset.mem_univ _) h

end Cert.Board

end
-- ==== Proof.Scatter.lean ====
/- `x.at[i : i + A, j : j + B].set(u)` and `x.at[i, j : j + B].set(u)` on a matrix, read at one entry: the window's own entry
   inside the window, the matrix's entry outside it. -/
module

public import Idealize.ShloMosaic.Lib.Routing.OpsOne
public import Idealize.ShloMosaic.Lib.Pointwise

@[expose] public section

noncomputable section

namespace Cert.Board

open Idealize.ShloMosaic Idealize.ShloMosaic.Routing

variable {α : Type} {R C A B w : Nat}

/-- The entry of `[0, 1]` at the position of `q` in `[0, 1]` is `q`. -/
theorem getElem_idxOf_pair {l l' : List (Fin 2)} (hl : l = [0, 1]) (hl' : l' = [0, 1]) (q : Fin 2) (h : l.idxOf q < l'.length) : l'[l.idxOf q] = q := by
  subst hl hl'
  fin_cases q <;> rfl

/-- Update `(p, q)` of a block write lands at `(r, c)` exactly when the two index words, read signed, plus `p` and `q` are `r` and `c`. -/
theorem lands_block (d : ScatterDims (shape2 R C) (shape1 2) (shape2 A B)) (huw : d.updateWindowDims = [0, 1]) (hiw : d.insertedWindowDims = [])
    (hsd : d.scatterDimsToOperandDims = [0, 1]) (hivd : d.indexVectorDim = 0) (idx : IVec (shape1 2) w) (k : (shape2 A B).Idx) (r : Fin R) (c : Fin C) :
    d.resultIdx? k idx = some (ValueIdx.ix2 r c)
      ↔ (idx (ValueIdx.ix1 (0 : Fin 2))).toInt + ((k 0).val : Int) = r.val ∧ (idx (ValueIdx.ix1 (1 : Fin 2))).toInt + ((k 1).val : Int) = c.val := by
  have hk : d.sKept = [0, 1] := by
    show (shape2 R C).kept d.insertedWindowDims = _
    rw [hiw]
    rfl
  have hwin : ∀ q : Fin 2, d.window k q = (k q).val := fun q => by
    unfold ScatterDims.window
    rw [dif_pos (by rw [hk]; fin_cases q <;> simp)]
    exact congrArg (fun t => (k t).val) (getElem_idxOf_pair hk huw q _)
  rw [resultIdx?_ix2, start_pair d hsd hivd, start_pair d hsd hivd, hwin, hwin]

/-- A block write at one entry: entry `(r - i, c - j)` of the block where it covers `(r, c)`, else the matrix's entry. -/
theorem scatter_block (d : ScatterDims (shape2 R C) (shape1 2) (shape2 A B)) (huw : d.updateWindowDims = [0, 1]) (hiw : d.insertedWindowDims = [])
    (hsd : d.scatterDimsToOperandDims = [0, 1]) (hivd : d.indexVectorDim = 0) (x : (shape2 R C).Idx → α) (idx : IVec (shape1 2) w) (u : (shape2 A B).Idx → α)
    (i j : Nat) (hi : (idx (ix1 (0 : Fin 2))).toInt = i) (hj : (idx (ix1 (1 : Fin 2))).toInt = j) (r : Fin R) (c : Fin C) :
    Host.scatter d (fun _ b => b) x idx u (ix2 r c)
      = if h : (i ≤ r.val ∧ r.val < i + A) ∧ (j ≤ c.val ∧ c.val < j + B) then u (ix2 ⟨r.val - i, by omega⟩ ⟨c.val - j, by omega⟩) else x (ix2 r c) := by
  have lands := fun k => lands_block d huw hiw hsd hivd idx k r c
  rw [← ix1_eq_valueIdx, ← ix1_eq_valueIdx, hi, hj, ← ix2_eq_valueIdx] at lands
  split
  · next h =>
    refine scatter_set_hit d x idx u _ _ (fun k hk => ?_) (ix2 ⟨r.val - i, by omega⟩ ⟨c.val - j, by omega⟩) ((lands _).2 ⟨?_, ?_⟩)
    · obtain ⟨q0, q1⟩ := (lands k).1 hk
      rw [eq_ix2 k]
      congr 2
      · exact Fin.ext (by show (k 0).val = r.val - i; omega)
      · exact Fin.ext (by show (k 1).val = c.val - j; omega)
    · show (i : Int) + ((r.val - i : Nat) : Int) = r.val
      omega
    · show (j : Int) + ((c.val - j : Nat) : Int) = c.val
      omega
  · next h =>
    refine scatter_set_miss d x idx u _ fun k hk => h ?_
    obtain ⟨q0, q1⟩ := (lands k).1 hk
    have h0 : (k 0).val < A := (k 0).isLt
    have h1 : (k 1).val < B := (k 1).isLt
    omega

/-- Update `q` of a write along a row lands at `(r, c)` exactly when the first index word, read signed, is `r`, and the second plus `q` is `c`. -/
theorem lands_row (d : ScatterDims (shape2 R C) (shape1 2) (shape1 B)) (huw : d.updateWindowDims = [0]) (hiw : d.insertedWindowDims = [0])
    (hsd : d.scatterDimsToOperandDims = [0, 1]) (hivd : d.indexVectorDim = 0) (idx : IVec (shape1 2) w) (k : (shape1 B).Idx) (r : Fin R) (c : Fin C) :
    d.resultIdx? k idx = some (ValueIdx.ix2 r c)
      ↔ (idx (ValueIdx.ix1 (0 : Fin 2))).toInt = r.val ∧ (idx (ValueIdx.ix1 (1 : Fin 2))).toInt + ((k 0).val : Int) = c.val := by
  have hk : d.sKept = [1] := by
    show (shape2 R C).kept d.insertedWindowDims = _
    rw [hiw]
    rfl
  have hwin0 : d.window k 0 = 0 := by
    unfold ScatterDims.window
    rw [dif_neg (by rw [hk]; simp)]
  have hwin1 : d.window k 1 = (k 0).val := by
    unfold ScatterDims.window
    rw [dif_pos (by rw [hk]; simp)]
    exact congrArg (fun t => (k t).val) (Subsingleton.elim (α := Fin 1) _ 0)
  rw [resultIdx?_ix2, start_pair d hsd hivd, start_pair d hsd hivd, hwin0, hwin1]
  omega

/-- A write along row `i` at one entry: entry `c - j` of the row vector where it covers `(r, c)`, else the matrix's entry. -/
theorem scatter_row (d : ScatterDims (shape2 R C) (shape1 2) (shape1 B)) (huw : d.updateWindowDims = [0]) (hiw : d.insertedWindowDims = [0])
    (hsd : d.scatterDimsToOperandDims = [0, 1]) (hivd : d.indexVectorDim = 0) (x : (shape2 R C).Idx → α) (idx : IVec (shape1 2) w) (u : (shape1 B).Idx → α)
    (i j : Nat) (hi : (idx (ix1 (0 : Fin 2))).toInt = i) (hj : (idx (ix1 (1 : Fin 2))).toInt = j) (r : Fin R) (c : Fin C) :
    Host.scatter d (fun _ b => b) x idx u (ix2 r c)
      = if h : r.val = i ∧ (j ≤ c.val ∧ c.val < j + B) then u (ix1 ⟨c.val - j, by omega⟩) else x (ix2 r c) := by
  have lands := fun k => lands_row d huw hiw hsd hivd idx k r c
  rw [← ix1_eq_valueIdx, ← ix1_eq_valueIdx, hi, hj, ← ix2_eq_valueIdx] at lands
  split
  · next h =>
    refine scatter_set_hit d x idx u _ _ (fun k hk => ?_) (ix1 ⟨c.val - j, by omega⟩) ((lands _).2 ⟨?_, ?_⟩)
    · obtain ⟨q0, q1⟩ := (lands k).1 hk
      rw [eq_ix1 k]
      congr 2
      exact Fin.ext (by show (k 0).val = c.val - j; omega)
    · omega
    · show (j : Int) + ((c.val - j : Nat) : Int) = c.val
      omega
  · next h =>
    refine scatter_set_miss d x idx u _ fun k hk => h ?_
    obtain ⟨q0, q1⟩ := (lands k).1 hk
    have h0 : (k 0).val < B := (k 0).isLt
    omega

end Cert.Board

end
-- ==== Proof.Words.lean ====
/- The host's writes of a block and of part of a row at literal positions, read at one entry. -/
module

public import proofs.«01_k».proof.Proof.Gen.KernelIdeal
public import proofs.«01_k».proof.Proof.Scatter

@[expose] public section

set_option maxRecDepth 16384

noncomputable section

namespace Cert.Board

open Idealize.ShloMosaic Idealize.ShloMosaic.TcCoe Idealize.ShloMosaic.Routing Cert.KernelIdeal Cert.KernelIdeal.Gen

/-- A matrix at two pairs of equal coordinates. -/
theorem at_ix2 {α : Type} {R C : Nat} (f : (shape2 R C).Idx → α) {a a' : Fin R} {b b' : Fin C} (ha : a.val = a'.val) (hb : b.val = b'.val) :
    f (ix2 a b) = f (ix2 a' b') := by
  rw [Fin.ext ha, Fin.ext hb]

/-- A case distinction both of whose cases are `v`. -/
theorem dite_eq {α : Type} {P : Prop} [Decidable P] {a : P → α} {b : ¬P → α} {v : α} (ha : ∀ h, a h = v) (hb : ∀ h, b h = v) : dite P a b = v := by
  by_cases h : P
  · rw [dif_pos h, ha]
  · rw [dif_neg h, hb]

/-- The two index words of a write at row `i` and column `j`. -/
abbrev words (i j : Nat) : IVec S2 32 :=
  concatenate S2 0 [⟨S1, broadcastInDim S1 ![] bcast_S_S1 (constantI S_ 32 (BitVec.ofNat 32 i))⟩,
    ⟨S1, broadcastInDim S1 ![] bcast_S_S1 (constantI S_ 32 (BitVec.ofNat 32 j))⟩] concatenates_S1_S1_S2_d0

/-- The first word, read signed, is the row. -/
theorem words_0 {i : Nat} (j : Nat) (hi : i < 2 ^ 31) : (words i j (ix1 (0 : Fin 2))).toInt = i := by
  have h : words i j (ix1 (0 : Fin 2)) = BitVec.ofNat 32 i := rfl
  rw [h, StableHlo.Predicate.toInt_ofNat_small _ hi]

/-- The second word, read signed, is the column. -/
theorem words_1 (i : Nat) {j : Nat} (hj : j < 2 ^ 31) : (words i j (ix1 (1 : Fin 2))).toInt = j := by
  have h : words i j (ix1 (1 : Fin 2)) = BitVec.ofNat 32 j := rfl
  rw [h, StableHlo.Predicate.toInt_ofNat_small _ hj]

/-- A block write at literal positions, at one entry. -/
theorem block_at {α : Type} {R C A B : Nat} (d : ScatterDims (shape2 R C) S2 (shape2 A B)) (huw : d.updateWindowDims = [0, 1]) (hiw : d.insertedWindowDims = [])
    (hsd : d.scatterDimsToOperandDims = [0, 1]) (hivd : d.indexVectorDim = 0) (x : (shape2 R C).Idx → α) (u : (shape2 A B).Idx → α)
    (i j : Nat) (hi : i < 2 ^ 31) (hj : j < 2 ^ 31) (r : Fin R) (c : Fin C) :
    Host.scatter d (fun _ b => b) x (words i j) u (ix2 r c)
      = if h : (i ≤ r.val ∧ r.val < i + A) ∧ (j ≤ c.val ∧ c.val < j + B) then u (ix2 ⟨r.val - i, by omega⟩ ⟨c.val - j, by omega⟩) else x (ix2 r c) :=
  scatter_block d huw hiw hsd hivd x _ u i j (words_0 j hi) (words_1 i hj) r c

/-- A write along a row at literal positions, at one entry. -/
theorem row_at {α : Type} {R C B : Nat} (d : ScatterDims (shape2 R C) S2 (shape1 B)) (huw : d.updateWindowDims = [0]) (hiw : d.insertedWindowDims = [0])
    (hsd : d.scatterDimsToOperandDims = [0, 1]) (hivd : d.indexVectorDim = 0) (x : (shape2 R C).Idx → α) (u : (shape1 B).Idx → α)
    (i j : Nat) (hi : i < 2 ^ 31) (hj : j < 2 ^ 31) (r : Fin R) (c : Fin C) :
    Host.scatter d (fun _ b => b) x (words i j) u (ix2 r c)
      = if h : r.val = i ∧ (j ≤ c.val ∧ c.val < j + B) then u (ix1 ⟨c.val - j, by omega⟩) else x (ix2 r c) :=
  scatter_row d huw hiw hsd hivd x _ u i j (words_0 j hi) (words_1 i hj) r c

end Cert.Board

end
-- ==== Proof.ChampCore.lean ====
/- The kernel's champion product at one entry. -/
module

public import proofs.«01_k».proof.Proof.Words
public import Idealize.ShloMosaic.Lib.Pipeline.ValueKit
public import proofs.«01_k».proof.Proof.Gen.KernelIdeal.Value

@[expose] public section

set_option maxRecDepth 16384

noncomputable section

namespace Cert.Board

open Idealize.ShloMosaic Idealize.ShloMosaic.TcCoe Cert.KernelIdeal Cert.KernelIdeal.Gen

/-- Row `128 * c + b` of the champion product: the one-hot columns and the last 19 numbers, each times its row of the combined table. -/
theorem pay2_at (x0 : S37x128x30.Idx → EReal) (L : S1x11.Idx → EReal) (S : S11x429.Idx → EReal) (P : S1x429.Idx → EReal) (T : S448x135.Idx → EReal)
    (r : Fin 4736) (d : Fin 135) :
    k0_pay2 (F := Ideal) x0 L S P T (ix2 r d)
      = (∑ q : Fin 429, (if ∑ p : Fin 11, min (L (ix2 0 p)) (max 0 (Ideal.liftRound Int.floor
            (x0 (ix3 (⟨r.val / 128, by omega⟩ : Fin 37) (⟨r.val % 128, by omega⟩ : Fin 128) (⟨p.val, by omega⟩ : Fin 30))))) * S (ix2 p q) = P (ix2 0 q)
          then 1 else 0) * T (ix2 (⟨q.val, by omega⟩ : Fin 448) d))
        + ∑ q : Fin 19, x0 (ix3 (⟨r.val / 128, by omega⟩ : Fin 37) (⟨r.val % 128, by omega⟩ : Fin 128) (⟨11 + q.val, by omega⟩ : Fin 30))
          * T (ix2 (⟨429 + q.val, by omega⟩ : Fin 448) d) := by
  unfold k0_pay2
  pointwise

end Cert.Board

end
-- ==== Proof.TableT.lean ====
/- The combined table that the host prepares for the kernel, each entry in closed form. -/
module

public import proofs.«01_k».proof.Proof.Words
public import proofs.«01_k».proof.Proof.Gen.KernelIdeal.Value
public import proofs.«01_k».proof.Proof.Ids
public import Idealize.ShloMosaic.Lib.Pipeline.ValueKit

@[expose] public section

set_option maxRecDepth 16384

noncomputable section

namespace Cert.Board

open Idealize.ShloMosaic Idealize.ShloMosaic.TcCoe Idealize.ShloMosaic.Routing Cert.KernelIdeal Cert.KernelIdeal.Gen

/-! ## The combined table -/

/-- The combined table: the champion table in rows 0–59 and columns 0–29; the item table three times, in rows 60–239 and columns 30–59; the trait table
    seven times, in rows 240–428 and columns 60–115; the identity in rows 429–447 and columns 116–134; 0 elsewhere. -/
def tableT (A4 : S60x30.Idx → EReal) (A5 : S60x10.Idx → EReal) (A6 : S27x8.Idx → EReal) (k : Fin 448) (d : Fin 135) : EReal :=
  if h : k.val < 60 then
    if h' : d.val < 30 then A4 (ix2 ⟨k, h⟩ ⟨d, h'⟩) else 0
  else if h : k.val < 240 then
    if h' : 20 + 10 * (k.val / 60) ≤ d.val ∧ d.val < 30 + 10 * (k.val / 60) then A5 (ix2 ⟨k.val % 60, by omega⟩ ⟨d.val - (20 + 10 * (k.val / 60)), by omega⟩) else 0
  else if h : k.val < 429 then
    if h' : 60 + 8 * ((k.val - 240) / 27) ≤ d.val ∧ d.val < 68 + 8 * ((k.val - 240) / 27) then
      A6 (ix2 ⟨(k.val - 240) % 27, by omega⟩ ⟨d.val - (60 + 8 * ((k.val - 240) / 27)), by omega⟩)
    else 0
  else if d.val + 313 = k.val then 1 else 0

section
variable (A4 : S60x30.Idx → EReal) (A5 : S60x10.Idx → EReal) (A6 : S27x8.Idx → EReal) {k : Fin 448} {d : Fin 135}

/-- The champion table's part of the combined table. -/
theorem tableT_champ (i : Fin 60) (j : Fin 30) (hi : k.val = i.val) (hj : d.val = j.val) : tableT A4 A5 A6 k d = A4 (ix2 i j) := by
  have := i.isLt
  have := j.isLt
  unfold tableT
  rw [dif_pos (by omega), dif_pos (by omega)]
  exact at_ix2 A4 hi hj

/-- The item table's parts of the combined table: copy `g` of three. -/
theorem tableT_item (i : Fin 60) (j : Fin 10) (g : Nat) (hg : g < 3) (hi : k.val = 60 + 60 * g + i.val) (hj : d.val = 30 + 10 * g + j.val) :
    tableT A4 A5 A6 k d = A5 (ix2 i j) := by
  have := i.isLt
  have := j.isLt
  unfold tableT
  rw [dif_neg (by omega), dif_pos (by omega), dif_pos (by omega)]
  exact at_ix2 A5 (by dsimp only; omega) (by dsimp only; omega)

/-- The trait table's parts of the combined table: copy `g` of seven. -/
theorem tableT_trait (i : Fin 27) (j : Fin 8) (g : Nat) (hi : k.val = 240 + 27 * g + i.val) (hj : d.val = 60 + 8 * g + j.val) (hg : g < 7) :
    tableT A4 A5 A6 k d = A6 (ix2 i j) := by
  have := i.isLt
  have := j.isLt
  unfold tableT
  rw [dif_neg (by omega), dif_neg (by omega), dif_pos (by omega), dif_pos (by omega)]
  exact at_ix2 A6 (by dsimp only; omega) (by dsimp only; omega)

/-- The identity's ones in the combined table. -/
theorem tableT_one (h : d.val + 313 = k.val) (hk : 429 ≤ k.val) : tableT A4 A5 A6 k d = 1 := by
  unfold tableT
  rw [dif_neg (by omega), dif_neg (by omega), dif_neg (by omega), if_pos h]

/-- The combined table is 0 outside its parts. -/
theorem tableT_zero (h1 : ¬(k.val < 60 ∧ d.val < 30)) (h2 : ¬((60 ≤ k.val ∧ k.val < 240) ∧ 20 + 10 * (k.val / 60) ≤ d.val ∧ d.val < 30 + 10 * (k.val / 60)))
    (h3 : ¬((240 ≤ k.val ∧ k.val < 429) ∧ 60 + 8 * ((k.val - 240) / 27) ≤ d.val ∧ d.val < 68 + 8 * ((k.val - 240) / 27)))
    (h4 : ¬(429 ≤ k.val ∧ d.val + 313 = k.val)) : tableT A4 A5 A6 k d = 0 := by
  unfold tableT
  split
  · exact dif_neg (by omega)
  split
  · exact dif_neg (by omega)
  split
  · exact dif_neg (by omega)
  · exact if_neg (by omega)

end

/-- The 19 × 19 identity that the host builds, at one entry. -/
theorem eye_at (r c : Fin 19) :
    uitofp (F := Ideal) FTy.f32 (cmpi CmpIPredicate.eq (addi (iotaInDim S19x19 32 0) (broadcastInDim S19x19 ![] bcast_S_S19x19 (constantI S_ 32 0#32)))
      (iotaInDim S19x19 32 1)) (ix2 r c) = if c.val = r.val then (1 : EReal) else 0 := by
  pointwise
  have h0 : IntOp.addi (BitVec.ofNat 32 r.val) 0#32 = BitVec.ofNat 32 r.val := BitVec.add_zero _
  rw [h0, uitofp_eq_word (by omega) (by omega)]
  simp only [eq_comm]

set_option maxHeartbeats 4000000 in
/-- The kernel's fifth operand is the combined table. -/
theorem V55 (m : (ℓ : Loc nD τ sig) → Buf (Elt Ideal) ℓ) (c : Dev nD) (k : Fin 448) (d : Fin 135) :
    V m c main_v55 (ix2 k d) = tableT (m (c, Proc.tc.devRef main_arg4)) (m (c, Proc.tc.devRef main_arg5)) (m (c, Proc.tc.devRef main_arg6)) k d := by
  entry_read
  generalize m (c, Proc.tc.devRef main_arg4) = A4
  generalize m (c, Proc.tc.devRef main_arg5) = A5
  generalize m (c, Proc.tc.devRef main_arg6) = A6
  rw [truncf_apply, Ideal.truncf_def]
  have hE := eye_at
  have hZ : ∀ i, broadcastInDim S448x135 ![] bcast_S_S448x135 (constant (F := Ideal) S_ FTy.f32 0x00000000#32) i = (0 : EReal) := fun i => Ideal.ofBits_zero_f32
  generalize uitofp (F := Ideal) FTy.f32 (cmpi CmpIPredicate.eq (addi (iotaInDim S19x19 32 0) (broadcastInDim S19x19 ![] bcast_S_S19x19 (constantI S_ 32 0#32)))
      (iotaInDim S19x19 32 1)) = E at hE ⊢
  generalize broadcastInDim S448x135 ![] bcast_S_S448x135 (constant (F := Ideal) S_ FTy.f32 0x00000000#32) = Z at hZ ⊢
  have h19 := fun x u i j hi hj => block_at (α := EReal) scatter_S448x135_S2_S19x19_01_n_01_0 rfl rfl rfl rfl x u i j hi hj k d
  have h27 := fun x u i j hi hj => block_at (α := EReal) scatter_S448x135_S2_S27x8_01_n_01_0 rfl rfl rfl rfl x u i j hi hj k d
  have h10 := fun x u i j hi hj => block_at (α := EReal) scatter_S448x135_S2_S60x10_01_n_01_0 rfl rfl rfl rfl x u i j hi hj k d
  have h30 := fun x u i j hi hj => block_at (α := EReal) scatter_S448x135_S2_S60x30_01_n_01_0 rfl rfl rfl rfl x u i j hi hj k d
  erw [h19 _ _ 429 116 (by decide) (by decide), h27 _ _ 402 108 (by decide) (by decide), h27 _ _ 375 100 (by decide) (by decide),
    h27 _ _ 348 92 (by decide) (by decide), h27 _ _ 321 84 (by decide) (by decide), h27 _ _ 294 76 (by decide) (by decide),
    h27 _ _ 267 68 (by decide) (by decide), h27 _ _ 240 60 (by decide) (by decide), h10 _ _ 180 50 (by decide) (by decide),
    h10 _ _ 120 40 (by decide) (by decide), h10 _ _ 60 30 (by decide) (by decide), h30 _ _ 0 0 (by decide) (by decide)]
  clear h19 h27 h10 h30
  have hk := k.isLt
  have hd := d.isLt
  refine dite_eq (fun h => ?_) fun n1 => ?_
  · refine (hE _ _).trans ?_
    by_cases e : d.val + 313 = k.val
    · rw [tableT_one _ _ _ e (by omega), if_pos (by dsimp only; omega)]
    · rw [tableT_zero _ _ _ (by omega) (by omega) (by omega) (by omega), if_neg (by dsimp only; omega)]
  iterate 7
    refine dite_eq (fun h => (tableT_trait _ _ _ _ _ ((k.val - 240) / 27) (by dsimp only; omega) (by dsimp only; omega) (by omega)).symm) fun _ => ?_
  iterate 3
    refine dite_eq (fun h => (tableT_item _ _ _ _ _ (k.val / 60 - 1) (by omega) (by dsimp only; omega) (by dsimp only; omega)).symm) fun _ => ?_
  refine dite_eq (fun h => (tableT_champ _ _ _ _ _ (by dsimp only; omega) (by dsimp only; omega)).symm) fun _ => ?_
  rw [hZ, tableT_zero]
  all_goals omega

end Cert.Board

end
-- ==== Proof.TableS.lean ====
/- The small operands that the host prepares for the kernel, each entry in closed form. -/
module

public import proofs.«01_k».proof.Proof.Words
public import proofs.«01_k».proof.Proof.Gen.KernelIdeal.Value
public import proofs.«01_k».proof.Proof.Ids
public import Idealize.ShloMosaic.Lib.Pipeline.ValueKit

@[expose] public section

set_option maxRecDepth 16384

noncomputable section

namespace Cert.Board

open Idealize.ShloMosaic Idealize.ShloMosaic.TcCoe Idealize.ShloMosaic.Routing Cert.KernelIdeal Cert.KernelIdeal.Gen

/-! ## The segment table -/

/-- The segment table: 1 where column `q` lies in the segment of id `p`: three and one segments of 60 columns, then seven of 27. -/
def tableS (p : Fin 11) (q : Fin 429) : EReal :=
  if (if q.val < 240 then q.val / 60 else 4 + (q.val - 240) / 27) = p.val then 1 else 0

set_option maxHeartbeats 4000000 in
/-- The kernel's sixth operand is the segment table. -/
theorem V123 (m : (ℓ : Loc nD τ sig) → Buf (Elt Ideal) ℓ) (c : Dev nD) (p : Fin 11) (q : Fin 429) : V m c main_v123 (ix2 p q) = tableS p q := by
  entry_read
  rw [truncf_apply, Ideal.truncf_def]
  have hA : ∀ i, broadcastInDim S60 ![] bcast_S_S60 (constant (F := Ideal) S_ FTy.f32 0x3F800000#32) i = (1 : EReal) := fun i => Ideal.ofBits_one_f32
  have hB : ∀ i, broadcastInDim S27 ![] bcast_S_S27 (constant (F := Ideal) S_ FTy.f32 0x3F800000#32) i = (1 : EReal) := fun i => Ideal.ofBits_one_f32
  have hZ : ∀ i, broadcastInDim S11x429 ![] bcast_S_S11x429 (constant (F := Ideal) S_ FTy.f32 0x00000000#32) i = (0 : EReal) := fun i => Ideal.ofBits_zero_f32
  generalize broadcastInDim S60 ![] bcast_S_S60 (constant (F := Ideal) S_ FTy.f32 0x3F800000#32) = A at hA ⊢
  generalize broadcastInDim S27 ![] bcast_S_S27 (constant (F := Ideal) S_ FTy.f32 0x3F800000#32) = B at hB ⊢
  generalize broadcastInDim S11x429 ![] bcast_S_S11x429 (constant (F := Ideal) S_ FTy.f32 0x00000000#32) = Z at hZ ⊢
  have h27 := fun x u i j hi hj => row_at (α := EReal) scatter_S11x429_S2_S27_0_0_01_0 rfl rfl rfl rfl x u i j hi hj p q
  have h60 := fun x u i j hi hj => row_at (α := EReal) scatter_S11x429_S2_S60_0_0_01_0 rfl rfl rfl rfl x u i j hi hj p q
  erw [h27 _ _ 10 402 (by decide) (by decide), h27 _ _ 9 375 (by decide) (by decide), h27 _ _ 8 348 (by decide) (by decide),
    h27 _ _ 7 321 (by decide) (by decide), h27 _ _ 6 294 (by decide) (by decide), h27 _ _ 5 267 (by decide) (by decide),
    h27 _ _ 4 240 (by decide) (by decide), h60 _ _ 3 180 (by decide) (by decide), h60 _ _ 2 120 (by decide) (by decide),
    h60 _ _ 1 60 (by decide) (by decide), h60 _ _ 0 0 (by decide) (by decide)]
  clear h27 h60
  have hp := p.isLt
  have hq := q.isLt
  have one : (if q.val < 240 then q.val / 60 else 4 + (q.val - 240) / 27) = p.val → (1 : EReal) = tableS p q := fun h => (if_pos h).symm
  have zero : ¬(if q.val < 240 then q.val / 60 else 4 + (q.val - 240) / 27) = p.val → (0 : EReal) = tableS p q := fun h => (if_neg h).symm
  iterate 7 refine dite_eq (fun h => (hB _).trans (one (by split <;> omega))) fun _ => ?_
  iterate 4 refine dite_eq (fun h => (hA _).trans (one (by split <;> omega))) fun _ => ?_
  exact (hZ _).trans (zero (by split <;> omega))

/-- The kernel's eighth operand is the largest row number of each id's table. -/
theorem Vcst (m : (ℓ : Loc nD τ sig) → Buf (Elt Ideal) ℓ) (c : Dev nD) (p : Fin 11) :
    V m c main_cst (ix2 (0 : Fin 1) p) = (((if p.val < 4 then 59 else 26 : Nat) : ℝ) : EReal) := by
  entry_read
  fin_cases p
  all_goals first
    | exact lit_59.trans (by norm_num)
    | exact lit_26.trans (by norm_num)

end Cert.Board

end
-- ==== Proof.ChampSum.lean ====
/- The champion row as the kernel computes it, a sum over the combined table, is the row put together of table rows. -/
module

public import proofs.«01_k».proof.Proof.Spec
public import proofs.«01_k».proof.Proof.TableT
public import proofs.«01_k».proof.Proof.TableS

@[expose] public section

noncomputable section

namespace Cert.Board

open Idealize.ShloMosaic Cert.KernelIdeal

/-- The segment of a column of the one-hot matrix, which is also the place of the id it belongs to. -/
def seg (q : Fin 429) : Fin 11 := ⟨if q.val < 240 then q.val / 60 else 4 + (q.val - 240) / 27, by split <;> omega⟩

/-- A column's number within its segment. -/
def off (q : Fin 429) : Nat := if q.val < 240 then q.val % 60 else (q.val - 240) % 27

/-- The largest row number that the id at place `p` may have. -/
def lim (p : Fin 11) : Nat := if p.val < 4 then 59 else 26

/-- The clipped ids spread over the columns: each column gets the id of its segment. -/
def spread (x : Fin 30 → EReal) (q : Fin 429) : EReal :=
  ∑ p : Fin 11, min ((lim p : ℝ) : EReal) (max 0 (Ideal.liftRound Int.floor (x ⟨p.val, by omega⟩))) * tableS p q

/-- Column `q` of the matrix that is multiplied with the combined table. -/
def hot (x : Fin 30 → EReal) (q : Fin 448) : EReal :=
  if h : q.val < 429 then if spread x ⟨q.val, h⟩ = ((off ⟨q.val, h⟩ : ℝ) : EReal) then 1 else 0
  else x ⟨q.val - 418, by omega⟩

/-- A champion's ids name rows. -/
structure RowSound (x : Fin 30 → EReal) : Prop where
  champ : Names 60 (x 0)
  item : ∀ k : Fin 3, Names 60 (x ⟨1 + k.val, by omega⟩)
  trait : ∀ k : Fin 7, Names 27 (x ⟨4 + k.val, by omega⟩)

variable {x : Fin 30 → EReal}

/-- An id that names a row is clipped to itself. -/
theorem clip_names (hx : RowSound x) (p : Fin 11) :
    min ((lim p : ℝ) : EReal) (max 0 (Ideal.liftRound Int.floor (x ⟨p.val, by omega⟩))) = ((idOf (x ⟨p.val, by omega⟩) : ℝ) : EReal) := by
  have hp := p.isLt
  have hc : p.val = 0 ∨ (1 ≤ p.val ∧ p.val < 4) ∨ 4 ≤ p.val := by omega
  obtain h | h | h := hc
  · have e : x ⟨p.val, by omega⟩ = x 0 := congrArg x (Fin.ext h)
    have n := hx.champ
    rw [e, n.floor, clip_nat]
    have := n.lt
    unfold lim
    rw [if_pos (by omega)]
    omega
  · have e : x ⟨p.val, by omega⟩ = x ⟨1 + (⟨p.val - 1, by omega⟩ : Fin 3).val, by dsimp only; omega⟩ := congrArg x (Fin.ext (by dsimp only; omega))
    have n := hx.item ⟨p.val - 1, by omega⟩
    rw [e, n.floor, clip_nat]
    have := n.lt
    unfold lim
    rw [if_pos (by omega)]
    omega
  · have e : x ⟨p.val, by omega⟩ = x ⟨4 + (⟨p.val - 4, by omega⟩ : Fin 7).val, by dsimp only; omega⟩ := congrArg x (Fin.ext (by dsimp only; omega))
    have n := hx.trait ⟨p.val - 4, by omega⟩
    rw [e, n.floor, clip_nat]
    have := n.lt
    unfold lim
    rw [if_neg (by omega)]
    omega

/-- Each column gets the id of its segment. -/
theorem spread_eq (hx : RowSound x) (q : Fin 429) : spread x q = ((idOf (x ⟨(seg q).val, by omega⟩) : ℝ) : EReal) := by
  unfold spread
  rw [Finset.sum_eq_single (seg q)]
  · have e : tableS (seg q) q = 1 := if_pos rfl
    rw [clip_names hx, e, mul_one]
  · intro p _ hp
    have e : tableS p q = 0 := if_neg fun h => hp (Fin.ext h.symm)
    rw [e, mul_zero]
  · exact fun h => absurd (Finset.mem_univ _) h

/-- A column of the one-hot part is 1 where the id of its segment is its number, 0 elsewhere. -/
theorem hot_eq (hx : RowSound x) (q : Fin 448) (h : q.val < 429) :
    hot x q = if idOf (x ⟨(seg ⟨q.val, h⟩).val, by omega⟩) = off ⟨q.val, h⟩ then 1 else 0 := by
  unfold hot
  rw [dif_pos h, spread_eq hx]
  exact if_congr coe_nat_inj rfl rfl

/-- A one-hot column at the place of its id is 1. -/
theorem hot_one (hx : RowSound x) (q : Fin 448) (h : q.val < 429) (p : Fin 30) (hp : (seg ⟨q.val, h⟩).val = p.val) (hi : idOf (x p) = off ⟨q.val, h⟩) :
    hot x q = 1 := by
  rw [hot_eq hx q h]
  refine if_pos (Eq.trans ?_ hi)
  exact congrArg (fun p => idOf (x p)) (Fin.ext hp)

/-- A one-hot column elsewhere is 0. -/
theorem hot_zero (hx : RowSound x) (q : Fin 448) (h : q.val < 429) (p : Fin 30) (hp : (seg ⟨q.val, h⟩).val = p.val) (hi : idOf (x p) ≠ off ⟨q.val, h⟩) :
    hot x q = 0 := by
  rw [hot_eq hx q h]
  refine if_neg fun e => hi (Eq.trans ?_ e)
  exact congrArg (fun p => idOf (x p)) (Fin.ext hp.symm)

/-- The sum over the combined table's rows is the champion's row. -/
theorem champ_sum (hx : RowSound x) (A4 : S60x30.Idx → EReal) (A5 : S60x10.Idx → EReal) (A6 : S27x8.Idx → EReal) (d : Fin 135) :
    ∑ q : Fin 448, hot x q * tableT A4 A5 A6 q d = champRow A4 A5 A6 x d := by
  have hd := d.isLt
  unfold champRow
  by_cases h1 : d.val < 30
  · rw [dif_pos h1]
    have n := hx.champ
    have hl := n.lt
    rw [Finset.sum_eq_single (⟨idOf (x 0), by omega⟩ : Fin 448)]
    · rw [hot_one hx _ (by dsimp only; omega) 0 (by unfold seg; dsimp only; rw [if_pos (by omega)]; omega) (by unfold off; dsimp only; rw [if_pos (by omega)]; omega), one_mul]
      exact tableT_champ A4 A5 A6 _ _ n.row_val.symm rfl
    · intro q _ hq
      have hq' : q.val ≠ idOf (x 0) := fun h => hq (Fin.ext h)
      by_cases g : q.val < 60
      · rw [hot_zero hx q (by omega) 0 (by unfold seg; dsimp only; rw [if_pos (by omega)]; omega) (by unfold off; dsimp only; rw [if_pos (by omega)]; omega), zero_mul]
      · rw [tableT_zero A4 A5 A6, mul_zero] <;> omega
    · exact fun h => absurd (Finset.mem_univ _) h
  rw [dif_neg h1]
  by_cases h2 : d.val < 60
  · rw [dif_pos h2]
    obtain ⟨k, hk⟩ : ∃ k : Fin 3, (d.val - 30) / 10 = k.val := ⟨⟨(d.val - 30) / 10, by omega⟩, rfl⟩
    have hk3 := k.isLt
    have e : x ⟨1 + (d.val - 30) / 10, by omega⟩ = x ⟨1 + k.val, by omega⟩ := congrArg x (Fin.ext (by dsimp only; omega))
    rw [e]
    have n := hx.item k
    have hl := n.lt
    generalize hy : (⟨1 + k.val, by omega⟩ : Fin 30) = p at n hl
    have hp : p.val = 1 + k.val := by rw [← hy]
    rw [Finset.sum_eq_single (⟨60 + 60 * k.val + idOf (x p), by omega⟩ : Fin 448)]
    · rw [hot_one hx _ (by dsimp only; omega) p (by unfold seg; dsimp only; rw [if_pos (by omega)]; omega) (by unfold off; dsimp only; rw [if_pos (by omega)]; omega), one_mul]
      exact tableT_item A4 A5 A6 _ _ k.val k.isLt (by rw [n.row_val]) (by dsimp only; omega)
    · intro q _ hq
      have hq' : q.val ≠ 60 + 60 * k.val + idOf (x p) := fun h => hq (Fin.ext h)
      by_cases g : 60 + 60 * k.val ≤ q.val ∧ q.val < 120 + 60 * k.val
      · rw [hot_zero hx q (by omega) p (by unfold seg; dsimp only; rw [if_pos (by omega)]; omega) (by unfold off; dsimp only; rw [if_pos (by omega)]; omega), zero_mul]
      · rw [tableT_zero A4 A5 A6, mul_zero] <;> omega
    · exact fun h => absurd (Finset.mem_univ _) h
  rw [dif_neg h2]
  by_cases h3 : d.val < 116
  · rw [dif_pos h3]
    obtain ⟨k, hk⟩ : ∃ k : Fin 7, (d.val - 60) / 8 = k.val := ⟨⟨(d.val - 60) / 8, by omega⟩, rfl⟩
    have hk3 := k.isLt
    have e : x ⟨4 + (d.val - 60) / 8, by omega⟩ = x ⟨4 + k.val, by omega⟩ := congrArg x (Fin.ext (by dsimp only; omega))
    rw [e]
    have n := hx.trait k
    have hl := n.lt
    generalize hy : (⟨4 + k.val, by omega⟩ : Fin 30) = p at n hl
    have hp : p.val = 4 + k.val := by rw [← hy]
    rw [Finset.sum_eq_single (⟨240 + 27 * k.val + idOf (x p), by omega⟩ : Fin 448)]
    · rw [hot_one hx _ (by dsimp only; omega) p (by unfold seg; dsimp only; rw [if_neg (by omega)]; omega) (by unfold off; dsimp only; rw [if_neg (by omega)]; omega), one_mul]
      exact tableT_trait A4 A5 A6 _ _ k.val (by rw [n.row_val]) (by dsimp only; omega) k.isLt
    · intro q _ hq
      have hq' : q.val ≠ 240 + 27 * k.val + idOf (x p) := fun h => hq (Fin.ext h)
      by_cases g : 240 + 27 * k.val ≤ q.val ∧ q.val < 267 + 27 * k.val
      · rw [hot_zero hx q (by omega) p (by unfold seg; dsimp only; rw [if_neg (by omega)]; omega) (by unfold off; dsimp only; rw [if_neg (by omega)]; omega), zero_mul]
      · rw [tableT_zero A4 A5 A6, mul_zero] <;> omega
    · exact fun h => absurd (Finset.mem_univ _) h
  rw [dif_neg h3]
  rw [Finset.sum_eq_single (⟨d.val + 313, by omega⟩ : Fin 448)]
  · rw [tableT_one A4 A5 A6 (by rfl) (by dsimp only; omega), mul_one]
    unfold hot
    rw [dif_neg (by dsimp only; omega)]
    exact congrArg x (Fin.ext (by dsimp only; omega))
  · intro q _ hq
    have hq' : q.val ≠ d.val + 313 := fun h => hq (Fin.ext h)
    rw [tableT_zero A4 A5 A6, mul_zero] <;> omega
  · exact fun h => absurd (Finset.mem_univ _) h

end Cert.Board

end
-- ==== Proof.Block.lean ====
/- One block of the kernel's result: each stored piece is a row of the board. -/
module

public import proofs.«01_k».proof.Proof.PlayerRows
public import proofs.«01_k».proof.Proof.Bench
public import proofs.«01_k».proof.Proof.ChampCore
public import proofs.«01_k».proof.Proof.ChampSum

@[expose] public section

set_option maxRecDepth 16384

noncomputable section

namespace Cert.Board

open Idealize.ShloMosaic Idealize.ShloMosaic.TcCoe Cert.KernelIdeal Cert.KernelIdeal.Gen

/-- A stored piece is 128 consecutive rows of the matrix `f`. -/
theorem rows_at {n : Nat} (f : (⟨2, ![n, 135]⟩ : Shape).Idx → EReal) (o : Nat) (h : (⟨2, ![n, 135]⟩ : Shape).Slices ![o, 0] S128x135) (x : S128x1x135.Idx) (r : Fin n)
    (d : Fin 135) (hr : r.val = o + (x 0).val) (hd : d.val = (x 2).val) :
    shapeCast S128x1x135 (extractStridedSlice S128x135 ![o, 0] f h) shapeCasts_S128x135_S128x1x135 x = f (ix2 r d) := by
  pointwise
  refine congrArg f (funext fun a => ?_)
  match a with
  | ⟨0, _⟩ => exact Fin.ext hr.symm
  | ⟨1, _⟩ => exact Fin.ext ((Nat.zero_add _).trans hd.symm)

/-- No offset on two axes. -/
theorem off2 : (![0, 0] : Fin 2 → Nat) = fun _ => 0 := funext fun a => by match a with | ⟨0, _⟩ => rfl | ⟨1, _⟩ => rfl

/-- No offset on three axes. -/
theorem off3 : (![0, 0, 0] : Fin 3 → Nat) = fun _ => 0 := funext fun a => by match a with | ⟨0, _⟩ => rfl | ⟨1, _⟩ => rfl | ⟨2, _⟩ => rfl

/-- The block's id columns name rows, and its table operands are the combined tables. -/
structure BlockSound (x0 : S37x128x30.Idx → EReal) (x1 : S128x10.Idx → EReal) (x3 : S128x10.Idx → EReal) (x4 : S448x135.Idx → EReal) (x5 : S11x429.Idx → EReal)
    (x6 : S1x429.Idx → EReal) (x7 : S1x11.Idx → EReal) (A4 : S60x30.Idx → EReal) (A5 : S60x10.Idx → EReal) (A6 : S27x8.Idx → EReal) : Prop where
  champ : ∀ (c : Fin 37) (b : Fin 128), RowSound fun k => x0 (ix3 c b k)
  bench : ∀ (b : Fin 128) (k : Fin 10), Names 60 (x1 (ix2 b k))
  player : ∀ (b : Fin 128) (k : Fin 4), Names 8 (x3 (ix2 b (playerCol k)))
  table : ∀ (k : Fin 448) (d : Fin 135), x4 (ix2 k d) = tableT A4 A5 A6 k d
  segment : ∀ (p : Fin 11) (q : Fin 429), x5 (ix2 p q) = tableS p q
  pattern : ∀ q : Fin 429, x6 (ix2 (0 : Fin 1) q) = ((off q : ℝ) : EReal)
  limit : ∀ p : Fin 11, x7 (ix2 (0 : Fin 1) p) = ((lim p : ℝ) : EReal)

/-- The board's entries from a block's contents. -/
def blockVal (x0 : S37x128x30.Idx → EReal) (x1 : S128x10.Idx → EReal) (x2 : S128x27.Idx → EReal) (x3 : S128x10.Idx → EReal) (A4 : S60x30.Idx → EReal)
    (A5 : S60x10.Idx → EReal) (A6 : S27x8.Idx → EReal) (x8 : S60x135.Idx → EReal) (x9 : S8x135.Idx → EReal) (x10 : S27x27.Idx → EReal) (x11 : S1x27.Idx → EReal)
    (x12 : S27x135.Idx → EReal) (x13 : S1x135.Idx → EReal) (b : Fin 128) (s : Fin 58) (d : Fin 135) : EReal :=
  if h1 : s.val < 37 then champRow A4 A5 A6 (fun k => x0 (ix3 (⟨s.val, h1⟩ : Fin 37) b k)) d
  else if h2 : s.val < 47 then benchRow x8 (x1 (ix2 b (⟨s.val - 37, by omega⟩ : Fin 10))) d
  else if s.val < 48 then mlpRow x10 (fun j => x11 (ix2 (0 : Fin 1) j)) x12 (fun j => x13 (ix2 (0 : Fin 1) j)) (fun i => x2 (ix2 b i)) d
  else if h4 : s.val < 54 then scalarRow (x3 (ix2 b (⟨s.val - 47, by omega⟩ : Fin 10))) d
  else playerRow x9 (x3 (ix2 b (playerCol (⟨s.val - 54, by omega⟩ : Fin 4)))) d

section

variable {x0 : S37x128x30.Idx → EReal} {x1 : S128x10.Idx → EReal} {x2 : S128x27.Idx → EReal} {x3 : S128x10.Idx → EReal} {x4 : S448x135.Idx → EReal}
  {x5 : S11x429.Idx → EReal} {x6 : S1x429.Idx → EReal} {x7 : S1x11.Idx → EReal} {x8 : S60x135.Idx → EReal} {x9 : S8x135.Idx → EReal} {x10 : S27x27.Idx → EReal}
  {x11 : S1x27.Idx → EReal} {x12 : S27x135.Idx → EReal} {x13 : S1x135.Idx → EReal} {A4 : S60x30.Idx → EReal} {A5 : S60x10.Idx → EReal} {A6 : S27x8.Idx → EReal}

/-- Row `128 * c + b` of the champion product is the champion's row. -/
theorem champ_at (H : BlockSound x0 x1 x3 x4 x5 x6 x7 A4 A5 A6) (r : Fin 4736) (d : Fin 135) (b : Fin 128) (c : Fin 37) (hr : r.val = 128 * c.val + b.val) :
    k0_pay2 (F := Ideal) x0 x7 x5 x6 x4 (ix2 r d) = champRow A4 A5 A6 (fun k => x0 (ix3 c b k)) d := by
  have hb := b.isLt
  have ec : (⟨r.val / 128, by omega⟩ : Fin 37) = c := Fin.ext (by dsimp only; omega)
  have eb : (⟨r.val % 128, by omega⟩ : Fin 128) = b := Fin.ext (by dsimp only; omega)
  rw [pay2_at, ec, eb, ← champ_sum (H.champ c b) A4 A5 A6 d]
  rw [Fin.sum_univ_add (a := 429) (b := 19)]
  congr 1
  · refine Finset.sum_congr rfl fun q _ => ?_
    have e : hot (fun k => x0 (ix3 c b k)) (Fin.castAdd 19 q) = if spread (fun k => x0 (ix3 c b k)) q = ((off q : ℝ) : EReal) then 1 else 0 := dif_pos q.isLt
    rw [e, H.table, H.pattern]
    unfold spread
    simp only [H.segment, H.limit]
    rfl
  · refine Finset.sum_congr rfl fun q _ => ?_
    have e : hot (fun k => x0 (ix3 c b k)) (Fin.natAdd 429 q) = x0 (ix3 c b ⟨429 + q.val - 418, by omega⟩) := dif_neg (by show ¬ (429 + q.val < 429); omega)
    rw [e, H.table]
    exact congrArg₂ (· * ·) (congrArg x0 (congrArg₂ (fun u v => ix3 c u v) rfl (Fin.ext (by dsimp only; omega)))) rfl

/-- A champion piece. -/
theorem champ_piece (H : BlockSound x0 x1 x3 x4 x5 x6 x7 A4 A5 A6) (f : S4736x135.Idx → EReal) (hf : f = k0_pay2 (F := Ideal) x0 x7 x5 x6 x4) (o : Nat)
    (h : S4736x135.Slices ![o, 0] S128x135) (x : S128x1x135.Idx) (b : Fin 128) (s : Fin 58) (d : Fin 135) (h0 : b.val = (x 0).val) (h1 : o = 128 * s.val)
    (h2 : d.val = (x 2).val) (hs : s.val < 37) :
    shapeCast S128x1x135 (extractStridedSlice S128x135 ![o, 0] f h) shapeCasts_S128x135_S128x1x135 x = blockVal x0 x1 x2 x3 A4 A5 A6 x8 x9 x10 x11 x12 x13 b s d := by
  have hb := b.isLt
  rw [rows_at f o h x ⟨128 * s.val + b.val, by omega⟩ d (by dsimp only; omega) h2, hf, champ_at H _ _ b ⟨s.val, hs⟩ rfl]
  unfold blockVal
  rw [dif_pos hs]

/-- A bench piece. -/
theorem bench_piece (H : BlockSound x0 x1 x3 x4 x5 x6 x7 A4 A5 A6) (f : S1280x135.Idx → EReal)
    (hf : f = k0_pay43 (F := Ideal) (Scalar.ofBits (F := Ideal) .f32 0x426C0000#32) (k0_pay42 (F := Ideal) x1) x8) (o : Nat)
    (h : S1280x135.Slices ![o, 0] S128x135) (x : S128x1x135.Idx) (b : Fin 128) (s : Fin 58) (d : Fin 135) (h0 : b.val = (x 0).val) (h1 : o = 128 * (s.val - 37))
    (h2 : d.val = (x 2).val) (hs : 37 ≤ s.val) (hs' : s.val < 47) :
    shapeCast S128x1x135 (extractStridedSlice S128x135 ![o, 0] f h) shapeCasts_S128x135_S128x1x135 x = blockVal x0 x1 x2 x3 A4 A5 A6 x8 x9 x10 x11 x12 x13 b s d := by
  have hb := b.isLt
  rw [rows_at f o h x ⟨128 * (s.val - 37) + b.val, by omega⟩ d (by dsimp only; omega) h2, hf, bench_at x1 x8 _ _ b ⟨s.val - 37, by omega⟩ rfl (H.bench b _)]
  unfold blockVal
  rw [dif_neg (by omega), dif_pos hs']

/-- A player piece. -/
theorem player_piece (H : BlockSound x0 x1 x3 x4 x5 x6 x7 A4 A5 A6) (f : S512x135.Idx → EReal)
    (hf : ∃ e, f = concatenate S512x135 0 (List.ofFn fun g : Fin 64 => (⟨S8x135, gather8 (k0_pay77 (F := Ideal) x3) x9 g⟩ : (s : Shape) × (s.Idx → EReal))) e) (o : Nat)
    (h : S512x135.Slices ![o, 0] S128x135) (x : S128x1x135.Idx) (b : Fin 128) (s : Fin 58) (d : Fin 135) (h0 : b.val = (x 0).val) (h1 : o = 128 * (s.val - 54))
    (h2 : d.val = (x 2).val) (hs : 54 ≤ s.val) :
    shapeCast S128x1x135 (extractStridedSlice S128x135 ![o, 0] f h) shapeCasts_S128x135_S128x1x135 x = blockVal x0 x1 x2 x3 A4 A5 A6 x8 x9 x10 x11 x12 x13 b s d := by
  have hb := b.isLt
  have hsl := s.isLt
  obtain ⟨e, rfl⟩ := hf
  rw [rows_at _ o h x ⟨128 * (s.val - 54) + b.val, by omega⟩ d (by dsimp only; omega) h2, players_at x3 x9 e _ _ b ⟨s.val - 54, by omega⟩ rfl (H.player b _)]
  unfold blockVal
  rw [dif_neg (by omega), dif_neg (by omega), if_neg (by omega), dif_neg (by omega)]

/-- The network's piece. -/
theorem mlp_piece (x : S128x1x135.Idx) (b : Fin 128) (s : Fin 58) (d : Fin 135) (h0 : b.val = (x 0).val) (h2 : d.val = (x 2).val) (hs : s.val = 47) :
    k0_pay56 (F := Ideal) (k0_pay55 (F := Ideal) x2 x10 x11 x12) x13 x = blockVal x0 x1 x2 x3 A4 A5 A6 x8 x9 x10 x11 x12 x13 b s d := by
  obtain rfl : b = x 0 := Fin.ext h0
  obtain rfl : d = x 2 := Fin.ext h2
  have e : k0_pay56 (F := Ideal) (k0_pay55 (F := Ideal) x2 x10 x11 x12) x13 x
      = mlpRow x10 (fun j => x11 (ix2 (0 : Fin 1) j)) x12 (fun j => x13 (ix2 (0 : Fin 1) j)) (fun i => x2 (ix2 (x 0) i)) (x 2) := by
    unfold k0_pay56 k0_pay55
    pointwise
    rfl
  rw [e]
  unfold blockVal
  rw [dif_neg (by omega), dif_neg (by omega), if_pos (by omega)]

/-- A scalar's piece. -/
theorem scalar_piece {v : EReal} (b : Fin 128) (s : Fin 58) (d : Fin 135) (b' : Fin 128) (k : Fin 10) (d' : Fin 135) (hs : 48 ≤ s.val) (hs' : s.val < 54)
    (e : v = scalarRow (x3 (ix2 b' k)) d') (h0 : b.val = b'.val) (h1 : s.val = 47 + k.val) (h2 : d.val = d'.val) :
    v = blockVal x0 x1 x2 x3 A4 A5 A6 x8 x9 x10 x11 x12 x13 b s d := by
  obtain rfl : b = b' := Fin.ext h0
  obtain rfl : d = d' := Fin.ext h2
  have ek : k = ⟨s.val - 47, by omega⟩ := Fin.ext (by dsimp only; omega)
  rw [e, ek]
  unfold blockVal
  rw [dif_neg (by omega), dif_neg (by omega), if_neg (by omega), dif_pos hs']

set_option maxHeartbeats 2000000 in
/-- The block of the kernel's result. -/
theorem tile_at (H : BlockSound x0 x1 x3 x4 x5 x6 x7 A4 A5 A6) (y : S128x58x135.Idx) :
    out0_14 (F := Ideal) x0 x1 x2 x3 x4 x5 x6 x7 x8 x9 x10 x11 x12 x13 y = blockVal x0 x1 x2 x3 A4 A5 A6 x8 x9 x10 x11 x12 x13 (y 0) (y 1) (y 2) := by
  have l0 : View.ld (Val := Elt Ideal) (e' := .f32) x0 r0_0 = x0 := View.ld_unit_zero (Val := Elt Ideal) (e := .f32) off3 _ x0
  have l1 : View.ld (Val := Elt Ideal) (e' := .f32) x1 r0_42 = x1 := View.ld_unit_zero (Val := Elt Ideal) (e := .f32) off2 _ x1
  have l2 : View.ld (Val := Elt Ideal) (e' := .f32) x2 r0_54 = x2 := View.ld_unit_zero (Val := Elt Ideal) (e := .f32) off2 _ x2
  have l3 : View.ld (Val := Elt Ideal) (e' := .f32) x3 r0_42 = x3 := View.ld_unit_zero (Val := Elt Ideal) (e := .f32) off2 _ x3
  have l4 : View.ld (Val := Elt Ideal) (e' := .bf16) x4 r0_4 = x4 := View.ld_unit_zero (Val := Elt Ideal) (e := .bf16) off2 _ x4
  have l5 : View.ld (Val := Elt Ideal) (e' := .bf16) x5 r0_2 = x5 := View.ld_unit_zero (Val := Elt Ideal) (e := .bf16) off2 _ x5
  have l6 : View.ld (Val := Elt Ideal) (e' := .bf16) x6 r0_3 = x6 := View.ld_unit_zero (Val := Elt Ideal) (e := .bf16) off2 _ x6
  have l7 : View.ld (Val := Elt Ideal) (e' := .f32) x7 r0_1 = x7 := View.ld_unit_zero (Val := Elt Ideal) (e := .f32) off2 _ x7
  have l8 : View.ld (Val := Elt Ideal) (e' := .bf16) x8 r0_43 = x8 := View.ld_unit_zero (Val := Elt Ideal) (e := .bf16) off2 _ x8
  have l9 : View.ld (Val := Elt Ideal) (e' := .f32) x9 r0_66 = x9 := View.ld_unit_zero (Val := Elt Ideal) (e := .f32) off2 _ x9
  have l10 : View.ld (Val := Elt Ideal) (e' := .f32) x10 r0_55 = x10 := View.ld_unit_zero (Val := Elt Ideal) (e := .f32) off2 _ x10
  have l11 : View.ld (Val := Elt Ideal) (e' := .f32) x11 r0_56 = x11 := View.ld_unit_zero (Val := Elt Ideal) (e := .f32) off2 _ x11
  have l12 : View.ld (Val := Elt Ideal) (e' := .f32) x12 r0_57 = x12 := View.ld_unit_zero (Val := Elt Ideal) (e := .f32) off2 _ x12
  have l13 : View.ld (Val := Elt Ideal) (e' := .f32) x13 r0_58 = x13 := View.ld_unit_zero (Val := Elt Ideal) (e := .f32) off2 _ x13
  have e164 : k0_pay164 (F := Ideal) x0 x1 x2 x3 x4 x5 x6 x7 x8 x9 x10 x11 x12 x13 = k0_pay2 (F := Ideal) x0 x7 x5 x6 x4 := by
    unfold k0_pay164
    rw [l0, l4, l5, l6, l7]
  have e165 : k0_pay165 (F := Ideal) x0 x1 x2 x3 x4 x5 x6 x7 x8 x9 x10 x11 x12 x13 = k0_pay42 (F := Ideal) x1 := by
    unfold k0_pay165
    rw [l1]
  have e166 : k0_pay166 (F := Ideal) x0 x1 x2 x3 x4 x5 x6 x7 x8 x9 x10 x11 x12 x13
      = k0_pay43 (F := Ideal) (Scalar.ofBits (F := Ideal) .f32 0x426C0000#32) (k0_pay42 (F := Ideal) x1) x8 := by
    unfold k0_pay166
    rw [e165, l8]
  have e169 : ∃ e, k0_pay169 (F := Ideal) x0 x1 x2 x3 x4 x5 x6 x7 x8 x9 x10 x11 x12 x13
      = concatenate S512x135 0 (List.ofFn fun g : Fin 64 => (⟨S8x135, gather8 (k0_pay77 (F := Ideal) x3) x9 g⟩ : (s : Shape) × (s.Idx → EReal))) e := by
    have e := players_list x0 x1 x2 x3 x4 x5 x6 x7 x8 x9 x10 x11 x12 x13
    rw [l3, l9] at e
    exact e
  canon_tiles x h
  all_goals try simp only [l0, l1, l2, l3, l4, l5, l6, l7, l8, l9, l10, l11, l12, l13, e164, e165, e166]
  all_goals clear l0 l1 l2 l3 l4 l5 l6 l7 l8 l9 l10 l11 l12 l13 e164 e165 e166
  all_goals try unfold k0_pay1 k0_pay163
  all_goals try unfold k0_pay13 k0_pay12
  all_goals try unfold k0_pay29 k0_pay28
  all_goals try unfold k0_pay50 k0_pay49
  all_goals first
    | (have hs : (y 1).val < 37 := by omega
       exact champ_piece H _ rfl _ _ x (y 0) (y 1) (y 2) h0 (by omega) h2 hs)
    | (have hs : 37 ≤ (y 1).val := by omega
       have hs' : (y 1).val < 47 := by omega
       exact bench_piece H _ rfl _ _ x (y 0) (y 1) (y 2) h0 (by omega) h2 hs hs')
    | (have hs : 54 ≤ (y 1).val := by omega
       exact player_piece H _ e169 _ _ x (y 0) (y 1) (y 2) h0 (by omega) h2 hs)
    | (have hs : (y 1).val = 47 := by omega
       exact mlp_piece x (y 0) (y 1) (y 2) h0 h2 hs)
    | (have hs : 48 ≤ (y 1).val := by omega
       have hs' : (y 1).val < 54 := by omega
       clear e169
       try unfold k0_pay167
       try unfold k0_pay76
       try unfold k0_pay75
       try unfold k0_pay74
       try unfold k0_pay73
       try unfold k0_pay72
       try unfold k0_pay71
       try unfold k0_pay70
       try unfold k0_pay69
       try unfold k0_pay68
       try unfold k0_pay67
       try unfold k0_pay66
       try unfold k0_pay65
       try unfold k0_pay64
       try unfold k0_pay63
       try unfold k0_pay62
       try unfold k0_pay61
       try unfold k0_pay60
       try unfold k0_pay59
       try unfold k0_pay58
       try unfold k0_pay57
       pointwise
       rw [lit_200, lit_step]
       exact scalar_piece (y 0) (y 1) (y 2) (x 0) _ (x 2) hs hs' (scalar_words (x3 (ix2 (x 0) _)) (x 2)) h0 (by omega) h2)

end

end Cert.Board

end
-- ==== Proof.TablePat.lean ====
/- The small operands that the host prepares for the kernel, each entry in closed form. -/
module

public import proofs.«01_k».proof.Proof.Words
public import proofs.«01_k».proof.Proof.Gen.KernelIdeal.Value
public import proofs.«01_k».proof.Proof.Ids
public import Idealize.ShloMosaic.Lib.Pipeline.ValueKit
public import Idealize.ShloMosaic.Lib.StableHlo.RunRead

@[expose] public section

set_option maxRecDepth 16384

noncomputable section

namespace Cert.Board

open Idealize.ShloMosaic Idealize.ShloMosaic.TcCoe Idealize.ShloMosaic.Routing Cert.KernelIdeal Cert.KernelIdeal.Gen

/-- A vector of 429 as one row, at one entry. -/
theorem row_of_vec (X : S429.Idx → EReal) (q : Fin 429) : shapeCast S1x429 X shapeCasts_S429_S1x429 (ix2 (0 : Fin 1) q) = X (ix1 q) := by
  pointwise

/-- A piece of the column numbers: position `i` of a piece that starts at `pre` holds the number `i`. -/
theorem piece_at (xs : List ((s : Shape) × (s.Idx → EReal))) (h : Shape.Concatenates (xs.map (·.1)) S429 0) (q : Fin 429) (k : Nat) (hk : k < xs.length) (n pre : Nat)
    (f : (shape1 n).Idx → EReal) (hxk : xs[k] = ⟨shape1 n, f⟩) (hf : f = sitofp (F := Ideal) FTy.f32 (iotaInDim (shape1 n) 32 0))
    (hpre : (((xs.take k).map (·.1)).map fun s => if h : s.rank = S429.rank then s.size ((0 : Fin 1).cast h.symm) else 0).sum = pre)
    (hq : pre ≤ q.val ∧ q.val < pre + n) : concatenate S429 0 xs h (ix1 q) = (((q.val - pre : Nat) : ℝ) : EReal) := by
  have hlt := q.isLt
  refine (concatenate_apply_piece (0 : Fin 1) xs h (ix1 q) k hk _ _ hxk rfl pre hpre (ix1 ⟨q.val - pre, by omega⟩) (fun b hb => absurd (Subsingleton.elim _ _) hb) ?_).trans ?_
  · show pre + (q.val - pre) = q.val
    omega
  · rw [hf]
    show (((BitVec.ofNat 32 (q.val - pre)).toInt : ℝ) : EReal) = _
    rw [StableHlo.Predicate.toInt_ofNat_small _ (by omega)]
    norm_cast

/-- The kernel's seventh operand numbers the columns within each segment. -/
theorem V126 (m : (ℓ : Loc nD τ sig) → Buf (Elt Ideal) ℓ) (c : Dev nD) (q : Fin 429) :
    V m c main_v126 (ix2 (0 : Fin 1) q) = (((if q.val < 240 then q.val % 60 else (q.val - 240) % 27 : Nat) : ℝ) : EReal) := by
  show StableHlo.after hostOps0 _ (Proc.devRef .tc main_v126) _ = _
  after_reads_simp
  rw [truncf_apply, Ideal.truncf_def]
  refine (row_of_vec _ q).trans ?_
  have hq := q.isLt
  have hv : ∀ a b : Nat, a = b → ((a : ℝ) : EReal) = ((b : ℝ) : EReal) := fun a b h => by rw [h]
  have hcase : (q.val / 60 < 4 ∧ q.val < 240) ∨ (240 ≤ q.val ∧ (q.val - 240) / 27 < 7) := by omega
  obtain ⟨hs, hb⟩ | ⟨hb, hs⟩ := hcase
  · generalize hg : q.val / 60 = g at hs
    interval_cases g
    · exact (piece_at _ _ q 0 (of_decide_eq_true rfl) 60 0 (StableHlo.upto hostOps0 (fun b => m (c, b)) 185 (Proc.devRef .tc main_v62)) rfl (by after_reads_simp) rfl (by omega)).trans (hv _ _ (by split <;> omega))
    · exact (piece_at _ _ q 1 (of_decide_eq_true rfl) 60 60 (StableHlo.upto hostOps0 (fun b => m (c, b)) 185 (Proc.devRef .tc main_v68)) rfl (by after_reads_simp) rfl (by omega)).trans (hv _ _ (by split <;> omega))
    · exact (piece_at _ _ q 2 (of_decide_eq_true rfl) 60 120 (StableHlo.upto hostOps0 (fun b => m (c, b)) 185 (Proc.devRef .tc main_v74)) rfl (by after_reads_simp) rfl (by omega)).trans (hv _ _ (by split <;> omega))
    · exact (piece_at _ _ q 3 (of_decide_eq_true rfl) 60 180 (StableHlo.upto hostOps0 (fun b => m (c, b)) 185 (Proc.devRef .tc main_v80)) rfl (by after_reads_simp) rfl (by omega)).trans (hv _ _ (by split <;> omega))
  · generalize hg : (q.val - 240) / 27 = g at hs
    interval_cases g
    · exact (piece_at _ _ q 4 (of_decide_eq_true rfl) 27 240 (StableHlo.upto hostOps0 (fun b => m (c, b)) 185 (Proc.devRef .tc main_v86)) rfl (by after_reads_simp) rfl (by omega)).trans (hv _ _ (by split <;> omega))
    · exact (piece_at _ _ q 5 (of_decide_eq_true rfl) 27 267 (StableHlo.upto hostOps0 (fun b => m (c, b)) 185 (Proc.devRef .tc main_v92)) rfl (by after_reads_simp) rfl (by omega)).trans (hv _ _ (by split <;> omega))
    · exact (piece_at _ _ q 6 (of_decide_eq_true rfl) 27 294 (StableHlo.upto hostOps0 (fun b => m (c, b)) 185 (Proc.devRef .tc main_v98)) rfl (by after_reads_simp) rfl (by omega)).trans (hv _ _ (by split <;> omega))
    · exact (piece_at _ _ q 7 (of_decide_eq_true rfl) 27 321 (StableHlo.upto hostOps0 (fun b => m (c, b)) 185 (Proc.devRef .tc main_v104)) rfl (by after_reads_simp) rfl (by omega)).trans (hv _ _ (by split <;> omega))
    · exact (piece_at _ _ q 8 (of_decide_eq_true rfl) 27 348 (StableHlo.upto hostOps0 (fun b => m (c, b)) 185 (Proc.devRef .tc main_v110)) rfl (by after_reads_simp) rfl (by omega)).trans (hv _ _ (by split <;> omega))
    · exact (piece_at _ _ q 9 (of_decide_eq_true rfl) 27 375 (StableHlo.upto hostOps0 (fun b => m (c, b)) 185 (Proc.devRef .tc main_v116)) rfl (by after_reads_simp) rfl (by omega)).trans (hv _ _ (by split <;> omega))
    · exact (piece_at _ _ q 10 (of_decide_eq_true rfl) 27 402 (StableHlo.upto hostOps0 (fun b => m (c, b)) 185 (Proc.devRef .tc main_v122)) rfl (by after_reads_simp) rfl (by omega)).trans (hv _ _ (by split <;> omega))

end Cert.Board

end
-- ==== Proof.Result.lean ====
/- The kernel's whole result: its blocks are the board's. -/
module

public import proofs.«01_k».proof.Proof.Block
public import proofs.«01_k».proof.Proof.TableT
public import proofs.«01_k».proof.Proof.TableS
public import proofs.«01_k».proof.Proof.TablePat
public import proofs.«01_k».proof.Proof.Gen.KernelIdeal.Frame
public import Idealize.ShloMosaic.Lib.Pipeline.ValueKit
public import Idealize.ShloMosaic.Lib.StableHlo.RunRead

@[expose] public section

set_option maxRecDepth 16384

noncomputable section

namespace Cert.Board

open Idealize.ShloMosaic Idealize.ShloMosaic.TcCoe Cert.KernelIdeal Cert.KernelIdeal.Gen

variable (m : (ℓ : Loc nD τ sig) → Buf (Elt Ideal) ℓ) (c : Dev nD)

/-- The champions' operand has its first two axes exchanged. -/
theorem V129 (k : Fin 37) (b : Fin 4096) (d : Fin 30) : V m c main_v129 (ix3 k b d) = m (c, Proc.tc.devRef main_arg0) (ix3 b k d) := by
  show StableHlo.after hostOps0 _ (Proc.devRef .tc main_v129) _ = _
  after_reads_simp
  pointwise

/-- The bench table's operand is the table. -/
theorem V130 (k : Fin 60) (d : Fin 135) : V m c main_v130 (ix2 k d) = m (c, Proc.tc.devRef main_arg7) (ix2 k d) := by
  show StableHlo.after hostOps0 _ (Proc.devRef .tc main_v130) _ = _
  after_reads_simp
  pointwise

/-- The first bias as a row. -/
theorem V127 (j : Fin 27) : V m c main_v127 (ix2 (0 : Fin 1) j) = m (c, Proc.tc.devRef main_arg10) (ix1 j) := by
  show StableHlo.after hostOps0 _ (Proc.devRef .tc main_v127) _ = _
  after_reads_simp
  pointwise

/-- The second bias as a row. -/
theorem V128 (j : Fin 135) : V m c main_v128 (ix2 (0 : Fin 1) j) = m (c, Proc.tc.devRef main_arg12) (ix1 j) := by
  show StableHlo.after hostOps0 _ (Proc.devRef .tc main_v128) _ = _
  after_reads_simp
  pointwise

/-- Where each window's block lies. -/
theorem idx : ∀ t : Fin cfg0.N, win0_0.index t = ![0, t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![t.val, 0, 0] :=
  (by decide +kernel : ∀ t : Fin grid0.N, _)

/-- The batch entry of row `b` of block `t`. -/
def entry (t : Fin cfg0.N) (b : Fin 128) : Fin 4096 := ⟨128 * t.val + b.val, by
  have ht : t.val < 32 := lt_of_lt_of_eq t.isLt N_0
  omega⟩

/-- Every table operand's block is the whole operand, and block `t` of a batch operand holds entries `128 * t` and on. -/
theorem blk0 (t : Fin cfg0.N) (k : Fin 37) (b : Fin 128) (d : Fin 30) : iblk m c 0 t (ix3 k b d) = m (c, Proc.tc.devRef main_arg0) (ix3 (entry t b) k d) := by
  refine Eq.trans ?_ (V129 m c k (entry t b) d)
  have hv : (entry t b).val = 128 * t.val + b.val := rfl
  blk_ext [iblk, idx t]

theorem blk1 (t : Fin cfg0.N) (b : Fin 128) (d : Fin 10) : iblk m c 1 t (ix2 b d) = m (c, Proc.tc.devRef main_arg1) (ix2 (entry t b) d) := by
  have hv : (entry t b).val = 128 * t.val + b.val := rfl
  blk_ext [iblk, V, idx t]

theorem blk2 (t : Fin cfg0.N) (b : Fin 128) (d : Fin 27) : iblk m c 2 t (ix2 b d) = m (c, Proc.tc.devRef main_arg2) (ix2 (entry t b) d) := by
  have hv : (entry t b).val = 128 * t.val + b.val := rfl
  blk_ext [iblk, V, idx t]

theorem blk3 (t : Fin cfg0.N) (b : Fin 128) (d : Fin 10) : iblk m c 3 t (ix2 b d) = m (c, Proc.tc.devRef main_arg3) (ix2 (entry t b) d) := by
  have hv : (entry t b).val = 128 * t.val + b.val := rfl
  blk_ext [iblk, V, idx t]

theorem blk4 (t : Fin cfg0.N) (p : Fin 448) (d : Fin 135) : iblk m c 4 t (ix2 p d) = V m c main_v55 (ix2 p d) := by
  blk_ext [iblk, idx t]

theorem blk5 (t : Fin cfg0.N) (p : Fin 11) (d : Fin 429) : iblk m c 5 t (ix2 p d) = V m c main_v123 (ix2 p d) := by
  blk_ext [iblk, idx t]

theorem blk6 (t : Fin cfg0.N) (p : Fin 1) (d : Fin 429) : iblk m c 6 t (ix2 p d) = V m c main_v126 (ix2 p d) := by
  blk_ext [iblk, idx t]

theorem blk7 (t : Fin cfg0.N) (p : Fin 1) (d : Fin 11) : iblk m c 7 t (ix2 p d) = V m c main_cst (ix2 p d) := by
  blk_ext [iblk, idx t]

theorem blk8 (t : Fin cfg0.N) (p : Fin 60) (d : Fin 135) : iblk m c 8 t (ix2 p d) = V m c main_v130 (ix2 p d) := by
  blk_ext [iblk, idx t]

theorem blk11 (t : Fin cfg0.N) (p : Fin 1) (d : Fin 27) : iblk m c 11 t (ix2 p d) = V m c main_v127 (ix2 p d) := by
  blk_ext [iblk, idx t]

theorem blk13 (t : Fin cfg0.N) (p : Fin 1) (d : Fin 135) : iblk m c 13 t (ix2 p d) = V m c main_v128 (ix2 p d) := by
  blk_ext [iblk, idx t]

theorem blk9 (t : Fin cfg0.N) (p : Fin 8) (d : Fin 135) : iblk m c 9 t (ix2 p d) = m (c, Proc.tc.devRef main_arg8) (ix2 p d) := by
  blk_ext [iblk, V, idx t]

theorem blk10 (t : Fin cfg0.N) (p : Fin 27) (d : Fin 27) : iblk m c 10 t (ix2 p d) = m (c, Proc.tc.devRef main_arg9) (ix2 p d) := by
  blk_ext [iblk, V, idx t]

theorem blk12 (t : Fin cfg0.N) (p : Fin 27) (d : Fin 135) : iblk m c 12 t (ix2 p d) = m (c, Proc.tc.devRef main_arg11) (ix2 p d) := by
  blk_ext [iblk, V, idx t]

/-- The ids of the launch's arguments name rows of their tables. -/
abbrev SoundAt : Prop := Sound (m (c, Proc.tc.devRef main_arg0)) (m (c, Proc.tc.devRef main_arg1)) (m (c, Proc.tc.devRef main_arg3))

/-- The board of the launch's arguments. -/
abbrev boardAt (b : Fin 4096) (s : Fin 58) (d : Fin 135) : EReal :=
  board (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11))
    (m (c, Proc.tc.devRef main_arg12)) b s d

variable {m c}

/-- The blocks' ids name rows, and the blocks' tables are the combined tables. -/
theorem block_sound (H : SoundAt m c) (t : Fin cfg0.N) :
    BlockSound (iblk m c 0 t) (iblk m c 1 t) (iblk m c 3 t) (iblk m c 4 t) (iblk m c 5 t) (iblk m c 6 t) (iblk m c 7 t)
      (m (c, Proc.tc.devRef main_arg4)) (m (c, Proc.tc.devRef main_arg5)) (m (c, Proc.tc.devRef main_arg6)) where
  champ k b :=
    { champ := by rw [blk0]; exact H.champ _ _
      item := fun i => by rw [blk0]; exact H.item _ _ i
      trait := fun i => by rw [blk0]; exact H.trait _ _ i }
  bench b k := by rw [blk1]; exact H.bench _ _
  player b k := by rw [blk3]; exact H.player _ k
  table k d := (blk4 m c t k d).trans (V55 m c k d)
  segment p q := (blk5 m c t p q).trans (V123 m c p q)
  pattern q := (blk6 m c t 0 q).trans (V126 m c q)
  limit p := (blk7 m c t 0 p).trans (Vcst m c p)

/-- The board's entries from block `t` are those of the launch's arguments. -/
theorem block_board (t : Fin cfg0.N) (b : Fin 128) (s : Fin 58) (d : Fin 135) :
    blockVal (iblk m c 0 t) (iblk m c 1 t) (iblk m c 2 t) (iblk m c 3 t) (m (c, Proc.tc.devRef main_arg4)) (m (c, Proc.tc.devRef main_arg5))
        (m (c, Proc.tc.devRef main_arg6)) (iblk m c 8 t) (iblk m c 9 t) (iblk m c 10 t) (iblk m c 11 t) (iblk m c 12 t) (iblk m c 13 t) b s d
      = boardAt m c (entry t b) s d := by
  unfold boardAt blockVal board
  by_cases h1 : s.val < 37
  · rw [dif_pos h1, dif_pos h1]
    exact congrArg (fun x => champRow _ _ _ x d) (funext fun k => blk0 m c t _ b k)
  · rw [dif_neg h1, dif_neg h1]
    by_cases h2 : s.val < 47
    · rw [dif_pos h2, dif_pos h2, blk1]
      exact (blk8 m c t _ d).trans (V130 m c _ d)
    · rw [dif_neg h2, dif_neg h2]
      by_cases h3 : s.val < 48
      · rw [if_pos h3, if_pos h3]
        unfold mlpRow
        simp only [blk10, blk12, blk2]
        have e1 : ∀ j, iblk m c 11 t (ix2 (0 : Fin 1) j) = m (c, Proc.tc.devRef main_arg10) (ix1 j) := fun j => (blk11 m c t 0 j).trans (V127 m c j)
        have e2 : iblk m c 13 t (ix2 (0 : Fin 1) d) = m (c, Proc.tc.devRef main_arg12) (ix1 d) := (blk13 m c t 0 d).trans (V128 m c d)
        simp only [e1, e2]
      · rw [if_neg h3, if_neg h3]
        by_cases h4 : s.val < 54
        · rw [dif_pos h4, dif_pos h4, blk3]
        · rw [dif_neg h4, dif_neg h4, blk3]
          refine (blk9 m c t _ d).trans ?_
          unfold playerRow
          refine congrArg (fun k : Fin 10 => m (c, Proc.tc.devRef main_arg8) (ix2 (row 8 (m (c, Proc.tc.devRef main_arg3) (ix2 (entry t b) k))) d)) ?_
          unfold playerCol
          by_cases h5 : s.val < 57
          · rw [dif_pos h5, dif_pos (show s.val - 54 < 3 by omega)]
            exact Fin.ext (by dsimp only; omega)
          · rw [dif_neg h5, dif_neg (show ¬ s.val - 54 < 3 by omega)]

/-- What the body leaves at point `t` is block `t` of the board. -/
theorem point (H : SoundAt m c) (t : Fin cfg0.N) (y : S128x58x135.Idx) :
    out0_14 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) y
      = boardAt m c (((cfg0.win 14).blk t).view.emb y 0) (((cfg0.win 14).blk t).view.emb y 1) (((cfg0.win 14).blk t).view.emb y 2) := by
  have e0 : entry t (y 0) = ((cfg0.win 14).blk t).view.emb y 0 := Fin.ext (by
    show 128 * t.val + (y 0).val = _
    blk_simp [idx t]
    omega)
  have e1 : y 1 = ((cfg0.win 14).blk t).view.emb y 1 := Fin.ext (by
    blk_simp [idx t])
  have e2 : y 2 = ((cfg0.win 14).blk t).view.emb y 2 := Fin.ext (by
    blk_simp [idx t])
  rw [← e0, ← e1, ← e2]
  exact (tile_at (block_sound H t) y).trans (block_board t (y 0) (y 1) (y 2))

/-- The kernel's result is the board. -/
theorem result (H : SoundAt m c) : (dats m 0 c).arrAt 14 cfg0.N = fun i : S4096x58x135.Idx => boardAt m c (i 0) (i 1) (i 2) := by
  refine (dats m 0 c).arrAt_eq_of_covers 14 _ (by decide +kernel) fun t _ y => ?_
  blk_simp
  rw [after0_14]
  exact point H t y

end Cert.Board

end
-- ==== Proof.PreIds.lean ====
/- The precondition says that the ids name rows. -/
module

public import proofs.«01_k».proof.Defs
public import proofs.«01_k».proof.Proof.Spec
public import Idealize.ShloMosaic.Lib.Pipeline.ValueKit

@[expose] public section

set_option maxRecDepth 16384

noncomputable section

namespace Cert.Board

open Idealize.ShloMosaic Idealize.ShloMosaic.TcCoe Cert.Pre_ids_name_rows

/-- The shapes of the precondition fit. -/
instance preFacts : Cert.Pre_ids_name_rows.Facts where
  slices_S4096x37x30_S4096x37x1_0_0_0 := by decide
  slices_S4096x37x30_S4096x37x3_0_0_1 := by decide
  slices_S4096x37x30_S4096x37x7_0_0_4 := by decide
  slices_S4096x10_S4096x3_0_7 := by decide
  slices_S4096x10_S4096x1_0_0 := by decide
  concatenates_S4096x3_S4096x1_S4096x4_d1 := by decide
  bcast_S_S4096x37x1 := by decide
  bcast_S_S4096x37x3 := by decide
  bcast_S_S4096x37x7 := by decide
  bcast_S_S4096x10 := by decide
  bcast_S_S4096x4 := by decide

/-- The two comparisons of the precondition. -/
def within (x hi : EReal) : BitVec 1 := IntOp.andi (Ideal.cmp .oge x (Ideal.ofBits .f32 0#32)) (Ideal.cmp .olt x hi)

/-- An id that passes both comparisons names a row. -/
theorem names_of {n : Nat} {x hi : EReal} (hhi : hi = ((n : ℝ) : EReal)) (h : within x hi = 1#1) : Names n x := by
  have e : within x hi = BitVec.ofBool (decide (0 ≤ x ∧ x < hi)) := by
    show IntOp.andi (BitVec.ofBool (decide (Ideal.ofBits .f32 0#32 ≤ x))) (BitVec.ofBool (decide (x < hi))) = _
    rw [Ideal.ofBits_zero_f32]
    by_cases a : 0 ≤ x <;> by_cases b : x < hi <;> simp [a, b] <;> rfl
  rw [e] at h
  by_cases p : 0 ≤ x ∧ x < hi
  · exact ⟨p.1, hhi ▸ p.2⟩
  · rw [decide_eq_false p] at h
    exact absurd h (by decide)

section

variable (A0 : S4096x37x30.Idx → EReal) (A1 : S4096x10.Idx → EReal) (A2 : S4096x27.Idx → EReal) (A3 : S4096x10.Idx → EReal) (A4 : S60x30.Idx → EReal)
  (A5 : S60x10.Idx → EReal) (A6 : S27x8.Idx → EReal) (A7 : S60x135.Idx → EReal) (A8 : S8x135.Idx → EReal) (w1 : S27x27.Idx → EReal) (b1 : S27.Idx → EReal)
  (w2 : S27x135.Idx → EReal) (b2 : S135.Idx → EReal)

/-- The first result compares the champions' ids. -/
theorem pre_champ (b : Fin 4096) (c : Fin 37) :
    (fn (F := Ideal) A0 A1 A2 A3 A4 A5 A6 A7 A8 w1 b1 w2 b2).1 (ix3 b c (0 : Fin 1))
      = within (A0 (ix3 b c (0 : Fin 30))) (Ideal.ofBits .f32 0x42700000#32) := by
  unfold fn fn_part1 within
  dsimp only
  pointwise

/-- The second compares the items' ids. -/
theorem pre_item (b : Fin 4096) (c : Fin 37) (k : Fin 3) :
    (fn (F := Ideal) A0 A1 A2 A3 A4 A5 A6 A7 A8 w1 b1 w2 b2).2.1 (ix3 b c k)
      = within (A0 (ix3 b c (⟨1 + k.val, by omega⟩ : Fin 30))) (Ideal.ofBits .f32 0x42700000#32) := by
  unfold fn fn_part1 within
  dsimp only
  pointwise

/-- The third compares the traits' ids. -/
theorem pre_trait (b : Fin 4096) (c : Fin 37) (k : Fin 7) :
    (fn (F := Ideal) A0 A1 A2 A3 A4 A5 A6 A7 A8 w1 b1 w2 b2).2.2.1 (ix3 b c k)
      = within (A0 (ix3 b c (⟨4 + k.val, by omega⟩ : Fin 30))) (Ideal.ofBits .f32 0x41D80000#32) := by
  unfold fn fn_part1 within
  dsimp only
  pointwise

/-- The fourth compares the bench items' ids. -/
theorem pre_bench (b : Fin 4096) (k : Fin 10) :
    (fn (F := Ideal) A0 A1 A2 A3 A4 A5 A6 A7 A8 w1 b1 w2 b2).2.2.2.1 (ix2 b k)
      = within (A1 (ix2 b k)) (Ideal.ofBits .f32 0x42700000#32) := by
  unfold fn fn_part1 within
  dsimp only
  pointwise

/-- The fifth compares the players' ids. -/
theorem pre_player (b : Fin 4096) (k : Fin 4) :
    (fn (F := Ideal) A0 A1 A2 A3 A4 A5 A6 A7 A8 w1 b1 w2 b2).2.2.2.2 (ix2 b k)
      = within (A3 (ix2 b (if h : k.val < 3 then ⟨7 + k.val, by omega⟩ else 0 : Fin 10))) (Ideal.ofBits .f32 0x41000000#32) := by
  have e : (if h : k.val < 3 then A3 (ix2 b (⟨7 + k.val, by omega⟩ : Fin 10)) else A3 (ix2 b (⟨k.val - 3, by omega⟩ : Fin 10)))
      = A3 (ix2 b (if h : k.val < 3 then ⟨7 + k.val, by omega⟩ else 0 : Fin 10)) := by
    by_cases h : k.val < 3
    · rw [dif_pos h, dif_pos h]
    · rw [dif_neg h, dif_neg h]
      exact congrArg A3 (congrArg₂ (fun u v => ix2 u v) rfl (Fin.ext (by show k.val - 3 = 0; omega)))
  unfold fn fn_part1 within
  dsimp only
  pointwise
  rw [e]

end

/-- Under the precondition every id names a row of its table. -/
theorem sound_of_pre {m : (ℓ : Loc Cert.KernelIdeal.nD Cert.KernelIdeal.τ Cert.KernelIdeal.sig) → Buf (Elt Ideal) ℓ} (h : Pre_KernelIdeal_ids_name_rows m)
    (c : Dev Cert.KernelIdeal.nD) :
    Sound (m (c, Proc.tc.devRef Cert.KernelIdeal.main_arg0)) (m (c, Proc.tc.devRef Cert.KernelIdeal.main_arg1)) (m (c, Proc.tc.devRef Cert.KernelIdeal.main_arg3)) := by
  obtain ⟨h0, h1, h2, h3, h4⟩ := h c
  exact
    { champ := fun b k => names_of lit_60 ((pre_champ _ _ _ _ _ _ _ _ _ _ _ _ _ b k).symm.trans (congrFun h0 _))
      item := fun b k i => names_of lit_60 ((pre_item _ _ _ _ _ _ _ _ _ _ _ _ _ b k i).symm.trans (congrFun h1 _))
      trait := fun b k i => names_of lit_27 ((pre_trait _ _ _ _ _ _ _ _ _ _ _ _ _ b k i).symm.trans (congrFun h2 _))
      bench := fun b k => names_of lit_60 ((pre_bench _ _ _ _ _ _ _ _ _ _ _ _ _ b k).symm.trans (congrFun h3 _))
      player := fun b k => names_of lit_8 ((pre_player _ _ _ _ _ _ _ _ _ _ _ _ _ b k).symm.trans (congrFun h4 _)) }

end Cert.Board

end
-- ==== Proof.Equal.lean ====
/- The kernel and the reference end with the same result. -/
module

public import proofs.«01_k».proof.Defs
public import proofs.«01_k».proof.Proof.Ref
public import proofs.«01_k».proof.Proof.Result
public import proofs.«01_k».proof.Proof.PreIds
public import proofs.«01_k».proof.Proof.Gen.KernelIdeal.Value
public import Idealize.ShloMosaic.Lib.Claim

@[expose] public section

set_option maxRecDepth 16384

noncomputable section

namespace Cert.Board

open Idealize.ShloMosaic Idealize.ShloMosaic.TcCoe Idealize.SL.Sem Cert.KernelIdeal

/-- The reference's result is the board of the kernel's arguments when the two programs' arguments agree. -/
theorem ref_board {V0 : Valuation Cert.ReferenceIdeal.τ Cert.ReferenceIdeal.sig (Elt Ideal)} {A0 : S4096x37x30.Idx → EReal} {A1 : S4096x10.Idx → EReal}
    {A2 : S4096x27.Idx → EReal} {A3 : S4096x10.Idx → EReal} {A4 : S60x30.Idx → EReal} {A5 : S60x10.Idx → EReal} {A6 : S27x8.Idx → EReal}
    {A7 : S60x135.Idx → EReal} {A8 : S8x135.Idx → EReal} {w1 : S27x27.Idx → EReal} {b1 : S27.Idx → EReal} {w2 : S27x135.Idx → EReal} {b2 : S135.Idx → EReal}
    (H : Sound A0 A1 A3) (e0 : R0 V0 = A0) (e1 : R1 V0 = A1) (e2 : R2 V0 = A2) (e3 : R3 V0 = A3) (e4 : R4 V0 = A4) (e5 : R5 V0 = A5) (e6 : R6 V0 = A6)
    (e7 : R7 V0 = A7) (e8 : R8 V0 = A8) (e9 : R9 V0 = w1) (e10 : R10 V0 = b1) (e11 : R11 V0 = w2) (e12 : R12 V0 = b2) (i : S4096x58x135.Idx) :
    Cert.ReferenceIdeal.Value.res_main_v61 (F := Ideal) V0 i = board A0 A1 A2 A3 A4 A5 A6 A7 A8 w1 b1 w2 b2 (i 0) (i 1) (i 2) := by
  subst e0 e1 e2 e3 e4 e5 e6 e7 e8 e9 e10 e11 e12
  have ei : i = ix3 (i 0) (i 1) (i 2) := funext fun a => by
    match a with
    | ⟨0, _⟩ => rfl
    | ⟨1, _⟩ => rfl
    | ⟨2, _⟩ => rfl
  exact (congrArg (Cert.ReferenceIdeal.Value.res_main_v61 (F := Ideal) V0) ei).trans (ref_at H (i 0) (i 1) (i 2))

/-- The two results are equal over the reals where the ids name rows. -/
theorem algebraic : algebraic_KernelIdeal_ReferenceIdeal_pre_ids_name_rows (hKernelIdeal := Cert.KernelIdeal.Gen.facts)
    (hReferenceIdeal := Cert.ReferenceIdeal.Gen.facts) (hPre_ids_name_rows := preFacts) := by
  intro m g m' g' hpre hagree
  refine ⟨fun c (i : S4096x58x135.Idx) => boardAt m c (i 0) (i 1) (i 2), ?_, ?_⟩
  · run_from Cert.KernelIdeal.Value.run_blocks m g
    exact result (sound_of_pre hpre c)
  · run_from Cert.ReferenceIdeal.Value.run m' g'
    obtain ⟨h0, h1, h2, h3, h4, h5, h6, h7, h8, h9, h10, h11, h12⟩ := hagree c
    exact funext fun i => ref_board (sound_of_pre hpre c) h0 h1 h2 h3 h4 h5 h6 h7 h8 h9 h10 h11 h12 i

end Cert.Board

end
-- ==== Proof.lean ====
/- The claims about the kernel: it runs and keeps its arguments, its idealization computes over the reals what the kernel's text says, and the
   idealized kernel's result is the reference's wherever the ids name rows of their tables. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equal
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference runs, keeps its arguments, and declares no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

theorem claim : Cert.Claim :=
  ⟨Cert.Kernel.Gen.facts, Cert.KernelIdeal.Gen.facts, Cert.ReferenceIdeal.Gen.facts, Cert.Board.preFacts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    Cert.Board.algebraic⟩

end Cert.Proof

end
